-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v37_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_qkv.lean ====
abbrev S9216x12288 : Shape := ⟨2, ![9216, 12288]⟩
abbrev S9216x128 : Shape := ⟨2, ![9216, 128]⟩
abbrev S1x16x2048 : Shape := ⟨3, ![1, 16, 2048]⟩
abbrev S1x2048 : Shape := ⟨2, ![1, 2048]⟩
abbrev S1x1024 : Shape := ⟨2, ![1, 1024]⟩
abbrev S8192x8192 : Shape := ⟨2, ![8192, 8192]⟩
abbrev S_ : Shape := ⟨0, ![]⟩

class Facts : Prop where
  slices_S9216x12288_S8192x8192_0_0 : S9216x12288.Slices ![0, 0] S8192x8192
  bitsLt_bf16_f32 : FTy.bits .bf16 < FTy.bits .f32
  bcast_S_S8192x8192 : S_.BroadcastsInDim S8192x8192 (![] : Fin 0 → Fin S8192x8192.rank)

variable [Facts]

def fn {F : FTy → Type} [FloatOps F] (main_arg0 : FVec F S9216x12288 .bf16) (main_arg1 : FVec F S9216x128 .f32) (main_arg2 : FVec F S1x16x2048 .f32) (main_arg3 : FVec F S1x2048 .f32) (main_arg4 : FVec F S1x1024 .f32) : IVec S8192x8192 1 :=
  let main_v0 : FVec F S8192x8192 .bf16 := (extractStridedSlice S8192x8192 ![0, 0] · slices_S9216x12288_S8192x8192_0_0) main_arg0
  let main_v1 : FVec F S8192x8192 .f32 := (extf .f32 · bitsLt_bf16_f32) main_v0
  let main_v2 : FVec F S8192x8192 .f32 := Host.absf main_v1
  let main_cst : FVec F S_ .f32 := constant S_ .f32 0x7F800000#32
  let main_v3 : FVec F S8192x8192 .f32 := broadcastInDim S8192x8192 ![] bcast_S_S8192x8192 main_cst
  let main_v4 : IVec S8192x8192 1 := cmpf .olt main_v2 main_v3
  main_v4
-- ==== Kernel.lean ====
abbrev S9216x12288 : Shape := ⟨2, ![9216, 12288]⟩
abbrev S9216x128 : Shape := ⟨2, ![9216, 128]⟩
abbrev S1x16x2048 : Shape := ⟨3, ![1, 16, 2048]⟩
abbrev S1x2048 : Shape := ⟨2, ![1, 2048]⟩
abbrev S1x1024 : Shape := ⟨2, ![1, 1024]⟩
abbrev S16x2048 : Shape := ⟨2, ![16, 2048]⟩
abbrev S_ : Shape := ⟨0, ![]⟩
abbrev S128x2048 : Shape := ⟨2, ![128, 2048]⟩
abbrev S1x1x2048 : Shape := ⟨3, ![1, 1, 2048]⟩
abbrev S1x1x1024 : Shape := ⟨3, ![1, 1, 1024]⟩
abbrev S8192x4096 : Shape := ⟨2, ![8192, 4096]⟩
abbrev S4x4x512x1024 : Shape := ⟨4, ![4, 4, 512, 1024]⟩
abbrev S128x512 : Shape := ⟨2, ![128, 512]⟩
abbrev S128x1024 : Shape := ⟨2, ![128, 1024]⟩
abbrev S128x128 : Shape := ⟨2, ![128, 128]⟩
abbrev S1x1x512 : Shape := ⟨3, ![1, 1, 512]⟩
abbrev S1x1x512x1024 : Shape := ⟨4, ![1, 1, 512, 1024]⟩
abbrev S1x512x1024 : Shape := ⟨3, ![1, 512, 1024]⟩
abbrev S1x512 : Shape := ⟨2, ![1, 512]⟩
abbrev S512x1024 : Shape := ⟨2, ![512, 1024]⟩
abbrev S512x128 : Shape := ⟨2, ![512, 128]⟩
abbrev S128 : Shape := ⟨1, ![128]⟩
abbrev S128x1 : Shape := ⟨2, ![128, 1]⟩

abbrev nBuf : Space → Nat
  | .hbm => 13
  | .vmem => 20
  | .smem => 0
  | _ => 0

abbrev bufTy : (tb : Table) → Fin (tcTables nBuf tb) → BufTy
  | .hbm, ⟨0, _⟩ => ⟨S9216x12288, .bf16⟩
  | .hbm, ⟨1, _⟩ => ⟨S9216x128, .f32⟩
  | .hbm, ⟨2, _⟩ => ⟨S1x16x2048, .f32⟩
  | .hbm, ⟨3, _⟩ => ⟨S1x2048, .f32⟩
  | .hbm, ⟨4, _⟩ => ⟨S1x1024, .f32⟩
  | .hbm, ⟨5, _⟩ => ⟨S16x2048, .f32⟩
  | .hbm, ⟨6, _⟩ => ⟨S_, .i32⟩
  | .hbm, ⟨7, _⟩ => ⟨S_, .f32⟩
  | .hbm, ⟨8, _⟩ => ⟨S128x2048, .f32⟩
  | .hbm, ⟨9, _⟩ => ⟨S1x1x2048, .f32⟩
  | .hbm, ⟨10, _⟩ => ⟨S1x1x1024, .f32⟩
  | .hbm, ⟨11, _⟩ => ⟨S8192x4096, .bf16⟩
  | .hbm, ⟨12, _⟩ => ⟨S4x4x512x1024, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S128x512, .f32⟩
  | .local _ .vmem, ⟨12, _⟩ => ⟨S1x1x512, .f32⟩
  | .local _ .vmem, ⟨13, _⟩ => ⟨S1x1x512, .f32⟩
  | .local _ .vmem, ⟨14, _⟩ => ⟨S1x1x1024, .f32⟩
  | .local _ .vmem, ⟨15, _⟩ => ⟨S128x1024, .bf16⟩
  | .local _ .vmem, ⟨16, _⟩ => ⟨S128x1024, .bf16⟩
  | .local _ .vmem, ⟨17, _⟩ => ⟨S1x1x512x1024, .f32⟩
  | .local _ .vmem, ⟨18, _⟩ => ⟨S1x1x512x1024, .f32⟩
  | .local _ .vmem, ⟨19, _⟩ => ⟨S1x512x1024, .f32⟩
  | _, _ => ⟨S9216x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v149 : BitVec 1 := Scalar.cmpi .eq arg2 c15_i32
  let v150 : BitVec 32 := Scalar.extui v149
  let c0_i32_60 : BitVec 32 := 0#32
  let v151 : BitVec 1 := Scalar.cmpi .ne v150 c0_i32_60
  v151

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S9216x12288 : Shape := ⟨2, ![9216, 12288]⟩
abbrev S9216x128 : Shape := ⟨2, ![9216, 128]⟩
abbrev S1x16x2048 : Shape := ⟨3, ![1, 16, 2048]⟩
abbrev S1x2048 : Shape := ⟨2, ![1, 2048]⟩
abbrev S1x1024 : Shape := ⟨2, ![1, 1024]⟩
abbrev S16x2048 : Shape := ⟨2, ![16, 2048]⟩
abbrev S2048 : Shape := ⟨1, ![2048]⟩
abbrev S8192x8192 : Shape := ⟨2, ![8192, 8192]⟩
abbrev S4x2048x8192 : Shape := ⟨3, ![4, 2048, 8192]⟩
abbrev S8192x16 : Shape := ⟨2, ![8192, 16]⟩
abbrev S4x2048x16 : Shape := ⟨3, ![4, 2048, 16]⟩
abbrev S4x2048x2048 : Shape := ⟨3, ![4, 2048, 2048]⟩
abbrev S4x2048x4096 : Shape := ⟨3, ![4, 2048, 4096]⟩
abbrev S1x1x2048 : Shape := ⟨3, ![1, 1, 2048]⟩
abbrev S_ : Shape := ⟨0, ![]⟩
abbrev S4x2048x4x512 : Shape := ⟨4, ![4, 2048, 4, 512]⟩
abbrev S4x2048x4x1024 : Shape := ⟨4, ![4, 2048, 4, 1024]⟩
abbrev S64x64 : Shape := ⟨2, ![64, 64]⟩
abbrev S4x4x512x1024 : Shape := ⟨4, ![4, 4, 512, 1024]⟩
abbrev S4x32x64x4x512 : Shape := ⟨5, ![4, 32, 64, 4, 512]⟩
abbrev S32x4x4x64x512 : Shape := ⟨5, ![32, 4, 4, 64, 512]⟩
abbrev S4x32x64x4x1024 : Shape := ⟨5, ![4, 32, 64, 4, 1024]⟩
abbrev S32x4x4x64x1024 : Shape := ⟨5, ![32, 4, 4, 64, 1024]⟩
abbrev S1x4x4x64x512 : Shape := ⟨5, ![1, 4, 4, 64, 512]⟩
abbrev S4x4x64x512 : Shape := ⟨4, ![4, 4, 64, 512]⟩
abbrev S1x4x4x64x1024 : Shape := ⟨5, ![1, 4, 4, 64, 1024]⟩
abbrev S4x4x64x1024 : Shape := ⟨4, ![4, 4, 64, 1024]⟩
abbrev S4x4x1x512 : Shape := ⟨4, ![4, 4, 1, 512]⟩
abbrev S4x4x64x64 : Shape := ⟨4, ![4, 4, 64, 64]⟩
abbrev S4x4x512 : Shape := ⟨3, ![4, 4, 512]⟩
abbrev S4x4x512x1 : Shape := ⟨4, ![4, 4, 512, 1]⟩
abbrev S4x2048x4 : Shape := ⟨3, ![4, 2048, 4]⟩
abbrev S4x2048x4x1 : Shape := ⟨4, ![4, 2048, 4, 1]⟩
abbrev S1024 : Shape := ⟨1, ![1024]⟩
abbrev S1x1x1x1024 : Shape := ⟨4, ![1, 1, 1, 1024]⟩
abbrev S8192x4096 : Shape := ⟨2, ![8192, 4096]⟩

abbrev nBuf : Space → Nat
  | .hbm => 175
  | .vmem => 0
  | .smem => 0
  | _ => 0

abbrev hbmTy0_0 (i : Nat) : BufTy := match i % 128 with
  | 0 => ⟨S9216x12288, .bf16⟩
  | 1 => ⟨S9216x128, .f32⟩
  | 2 => ⟨S1x16x2048, .f32⟩
  | 3 => ⟨S1x2048, .f32⟩
  | 4 => ⟨S1x1024, .f32⟩
  | 5 => ⟨S16x2048, .f32⟩
  | 6 => ⟨S2048, .f32⟩
  | 7 => ⟨S8192x8192, .bf16⟩
  | 8 => ⟨S8192x8192, .f32⟩
  | 9 => ⟨S4x2048x8192, .f32⟩
  | 10 => ⟨S8192x16, .f32⟩
  | 11 => ⟨S4x2048x16, .f32⟩
  | 12 => ⟨S4x2048x2048, .f32⟩
  | 13 => ⟨S4x2048x2048, .f32⟩
  | 14 => ⟨S4x2048x4096, .f32⟩
  | 15 => ⟨S4x2048x2048, .f32⟩
  | 16 => ⟨S1x1x2048, .f32⟩
  | 17 => ⟨S4x2048x2048, .f32⟩
  | 18 => ⟨S4x2048x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x2048, .f32⟩
  | 24 => ⟨S4x2048x2048, .f32⟩
  | 25 => ⟨S4x2048x2048, .i1⟩
  | 26 => ⟨S4x2048x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S_, .f32⟩
  | 36 => ⟨S4x2048x2048, .f32⟩
  | 37 => ⟨S4x2048x2048, .f32⟩
  | 38 => ⟨S4x2048x4x512, .f32⟩
  | 39 => ⟨S_, .f32⟩
  | 40 => ⟨S4x2048x4x512, .f32⟩
  | 41 => ⟨S4x2048x4x512, .f32⟩
  | 42 => ⟨S4x2048x4x512, .f32⟩
  | 43 => ⟨S4x2048x4x1024, .f32⟩
  | 44 => ⟨S4x2048x4x512, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S_, .f32⟩
  | 57 => ⟨S4x4x512x1024, .f32⟩
  | 58 => ⟨S4x32x64x4x512, .f32⟩
  | 59 => ⟨S32x4x4x64x512, .f32⟩
  | 60 => ⟨S4x32x64x4x512, .f32⟩
  | 61 => ⟨S32x4x4x64x512, .f32⟩
  | 62 => ⟨S4x32x64x4x1024, .f32⟩
  | 63 => ⟨S32x4x4x64x1024, .f32⟩
  | 64 => ⟨S4x32x64x4x512, .f32⟩
  | 65 => ⟨S32x4x4x64x512, .f32⟩
  | 66 => ⟨S_, .f32⟩
  | 67 => ⟨S32x4x4x64x1024, .f32⟩
  | 68 => ⟨S_, .i32⟩
  | 69 => ⟨S32x4x4x64x512, .f32⟩
  | 70 => ⟨S32x4x4x64x512, .f32⟩
  | 71 => ⟨S32x4x4x64x1024, .f32⟩
  | 72 => ⟨S32x4x4x64x512, .f32⟩
  | 73 => ⟨S64x64, .i1⟩
  | 74 => ⟨S_, .i32⟩
  | 75 => ⟨S4x4x512x1024, .f32⟩
  | 76 => ⟨S32x4x4x64x1024, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x4x4x64x512, .f32⟩
  | 84 => ⟨S4x4x64x512, .f32⟩
  | 85 => ⟨S_, .i32⟩
  | 86 => ⟨S_, .i32⟩
  | 87 => ⟨S_, .i32⟩
  | 88 => ⟨S_, .i32⟩
  | 89 => ⟨S1x4x4x64x512, .f32⟩
  | 90 => ⟨S4x4x64x512, .f32⟩
  | 91 => ⟨S_, .i32⟩
  | 92 => ⟨S_, .i32⟩
  | 93 => ⟨S_, .i32⟩
  | 94 => ⟨S_, .i32⟩
  | 95 => ⟨S1x4x4x64x1024, .f32⟩
  | 96 => ⟨S4x4x64x1024, .f32⟩
  | 97 => ⟨S_, .i32⟩
  | 98 => ⟨S_, .i32⟩
  | 99 => ⟨S_, .i32⟩
  | 100 => ⟨S_, .i32⟩
  | 101 => ⟨S1x4x4x64x512, .f32⟩
  | 102 => ⟨S4x4x64x512, .f32⟩
  | 103 => ⟨S_, .f32⟩
  | 104 => ⟨S_, .f32⟩
  | 105 => ⟨S4x4x64x512, .f32⟩
  | 106 => ⟨S4x4x1x512, .f32⟩
  | 107 => ⟨S4x4x64x512, .f32⟩
  | 108 => ⟨S4x4x64x512, .f32⟩
  | 109 => ⟨S4x4x64x512, .f32⟩
  | 110 => ⟨S4x4x64x512, .f32⟩
  | 111 => ⟨S4x4x64x512, .f32⟩
  | 112 => ⟨S4x4x64x64, .f32⟩
  | 113 => ⟨S_, .f32⟩
  | 114 => ⟨S_, .f32⟩
  | 115 => ⟨S4x4x64x64, .i1⟩
  | 116 => ⟨S4x4x64x64, .f32⟩
  | 117 => ⟨S4x4x64x64, .f32⟩
  | 118 => ⟨S4x4x64x1024, .f32⟩
  | 119 => ⟨S4x4x64x1024, .f32⟩
  | 120 => ⟨S4x4x64x1024, .f32⟩
  | 121 => ⟨S4x4x1x512, .f32⟩
  | 122 => ⟨S4x4x512, .f32⟩
  | 123 => ⟨S4x4x512x1, .f32⟩
  | 124 => ⟨S4x4x512x1024, .f32⟩
  | 125 => ⟨S4x4x512x1024, .f32⟩
  | 126 => ⟨S4x4x64x512, .f32⟩
  | 127 => ⟨S4x4x64x512, .f32⟩
  | _ => ⟨S9216x12288, .bf16⟩

abbrev hbmTy0_1 (i : Nat) : BufTy := match i % 128 with
  | 0 => ⟨S4x4x64x512, .f32⟩
  | 1 => ⟨S4x4x64x512, .f32⟩
  | 2 => ⟨S4x4x512x1024, .f32⟩
  | 3 => ⟨S4x4x512x1024, .f32⟩
  | 4 => ⟨S1x4x4x64x1024, .f32⟩
  | 5 => ⟨S_, .i32⟩
  | 6 => ⟨S_, .i32⟩
  | 7 => ⟨S_, .i32⟩
  | 8 => ⟨S_, .i32⟩
  | 9 => ⟨S32x4x4x64x1024, .f32⟩
  | 10 => ⟨S_, .i32⟩
  | 11 => ⟨S_, .i32⟩
  | 12 => ⟨S4x32x64x4x1024, .f32⟩
  | 13 => ⟨S4x2048x4x1024, .f32⟩
  | 14 => ⟨S4x2048x4x1024, .f32⟩
  | 15 => ⟨S_, .f32⟩
  | 16 => ⟨S4x2048x4, .f32⟩
  | 17 => ⟨S4x2048x4x1, .f32⟩
  | 18 => ⟨S_, .f32⟩
  | 19 => ⟨S4x2048x4x1, .f32⟩
  | 20 => ⟨S4x2048x4x1, .f32⟩
  | 21 => ⟨S_, .f32⟩
  | 22 => ⟨S4x2048x4x1, .f32⟩
  | 23 => ⟨S4x2048x4x1, .f32⟩
  | 24 => ⟨S4x2048x4x1, .f32⟩
  | 25 => ⟨S4x2048x4x1024, .f32⟩
  | 26 => ⟨S4x2048x4x1024, .f32⟩
  | 27 => ⟨S1024, .f32⟩
  | 28 => ⟨S1x1x1x1024, .f32⟩
  | 29 => ⟨S4x2048x4x1024, .f32⟩
  | 30 => ⟨S4x2048x4x1024, .f32⟩
  | 31 => ⟨S8192x4096, .bf16⟩
  | 32 => ⟨S8192x4096, .f32⟩
  | 33 => ⟨S4x2048x4096, .f32⟩
  | 34 => ⟨S4x2048x4096, .f32⟩
  | 35 => ⟨S4x2048x4096, .f32⟩
  | 36 => ⟨S4x2048x4096, .f32⟩
  | 37 => ⟨S_, .f32⟩
  | 38 => ⟨S4x2048x4096, .f32⟩
  | 39 => ⟨S4x2048x4096, .f32⟩
  | 40 => ⟨S_, .f32⟩
  | 41 => ⟨S4x2048x4096, .f32⟩
  | 42 => ⟨S4x2048x4096, .f32⟩
  | 43 => ⟨S4x2048x4096, .f32⟩
  | 44 => ⟨S4x2048x4096, .f32⟩
  | 45 => ⟨S8192x4096, .f32⟩
  | 46 => ⟨S8192x4096, .bf16⟩
  | _ => ⟨S9216x12288, .bf16⟩

abbrev hbmTy (i : Nat) : BufTy := match i / 128 with
  | 0 => hbmTy0_0 i
  | 1 => hbmTy0_1 i
  | _ => ⟨S9216x12288, .bf16⟩

abbrev bufTy : (tb : Table) → Fin (tcTables nBuf tb) → BufTy
  | .hbm, ⟨i, _⟩ => hbmTy i
  | _, _ => ⟨S9216x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v26 : Ref sig .tc := ⟨.hbm, 55, rfl⟩
abbrev main_cst_1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_2 : Ref sig .tc := ⟨.hbm, 66, rfl⟩
abbrev main_v36 : Ref sig .tc := ⟨.hbm, 67, rfl⟩
abbrev main_c_3 : Ref sig .tc := ⟨.hbm, 68, rfl⟩
abbrev main_v37_0 : Ref sig .tc := ⟨.hbm, 69, rfl⟩
abbrev main_v37_1 : Ref sig .tc := ⟨.hbm, 70, rfl⟩
abbrev main_v37_2 : Ref sig .tc := ⟨.hbm, 71, rfl⟩
abbrev main_v37_3 : Ref sig .tc := ⟨.hbm, 72, rfl⟩
abbrev main_v37_4 : Ref sig .tc := ⟨.hbm, 73, rfl⟩
abbrev main_v37_5 : Ref sig .tc := ⟨.hbm, 74, rfl⟩
abbrev main_v37_6 : Ref sig .tc := ⟨.hbm, 75, rfl⟩
abbrev main_v37_7 : Ref sig .tc := ⟨.hbm, 76, rfl⟩
abbrev main_while0c_c_14 : Ref sig .tc := ⟨.hbm, 77, rfl⟩
abbrev main_while0c_v62 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v0 : Ref sig .tc := ⟨.hbm, 83, rfl⟩
abbrev main_while0b_v62 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v63 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v64 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_c_2 : Ref sig .tc := ⟨.hbm, 100, rfl⟩
abbrev main_while0b_call5_v0 : Ref sig .tc := ⟨.hbm, 101, rfl⟩
abbrev main_while0b_v65 : Ref sig .tc := ⟨.hbm, 102, rfl⟩
abbrev main_while0b_call6_call0_cst : Ref sig .tc := ⟨.hbm, 103, rfl⟩
abbrev main_while0b_call6_call0_v0 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_cst_14 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_call7_v2 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_v84 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_v88 : Ref sig .tc := ⟨.hbm, 131, rfl⟩
abbrev main_while0b_call8_v0 : Ref sig .tc := ⟨.hbm, 132, rfl⟩
abbrev main_while0b_call8_c : Ref sig .tc := ⟨.hbm, 133, rfl⟩
abbrev main_while0b_call8_c_0 : Ref sig .tc := ⟨.hbm, 134, rfl⟩
abbrev main_while0b_call8_c_1 : Ref sig .tc := ⟨.hbm, 135, rfl⟩
abbrev main_while0b_call8_c_2 : Ref sig .tc := ⟨.hbm, 136, rfl⟩
abbrev main_while0b_v89 : Ref sig .tc := ⟨.hbm, 137, rfl⟩
abbrev main_while0b_c_15 : Ref sig .tc := ⟨.hbm, 138, rfl⟩
abbrev main_while0b_v90 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_cst_4 : Ref sig .tc := ⟨.hbm, 143, rfl⟩
abbrev main_v41 : Ref sig .tc := ⟨.hbm, 144, rfl⟩
abbrev main_v42 : Ref sig .tc := ⟨.hbm, 145, rfl⟩
abbrev main_cst_5 : Ref sig .tc := ⟨.hbm, 146, rfl⟩
abbrev main_v43 : Ref sig .tc := ⟨.hbm, 147, rfl⟩
abbrev main_v44 : Ref sig .tc := ⟨.hbm, 148, rfl⟩
abbrev main_cst_6 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_call9_v0 : Ref sig .tc := ⟨.hbm, 163, rfl⟩
abbrev main_call9_v1 : Ref sig .tc := ⟨.hbm, 164, rfl⟩
abbrev main_call9_cst : Ref sig .tc := ⟨.hbm, 165, rfl⟩
abbrev main_call9_v2 : Ref sig .tc := ⟨.hbm, 166, rfl⟩
abbrev main_call9_v3 : Ref sig .tc := ⟨.hbm, 167, rfl⟩
abbrev main_call9_cst_0 : Ref sig .tc := ⟨.hbm, 168, rfl⟩
abbrev main_call9_v4 : Ref sig .tc := ⟨.hbm, 169, rfl⟩
abbrev main_call9_v5 : Ref sig .tc := ⟨.hbm, 170, rfl⟩
abbrev main_v58 : Ref sig .tc := ⟨.hbm, 171, rfl⟩
abbrev main_v59 : Ref sig .tc := ⟨.hbm, 172, rfl⟩
abbrev main_v60 : Ref sig .tc := ⟨.hbm, 173, rfl⟩
abbrev main_v61 : Ref sig .tc := ⟨.hbm, 174, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S9216x4096 : Shape := ⟨2, ![9216, 4096]⟩
abbrev S1x4096x12304 : Shape := ⟨3, ![1, 4096, 12304]⟩
abbrev S1x12304x4096 : Shape := ⟨3, ![1, 12304, 4096]⟩
abbrev S9216x12288 : Shape := ⟨2, ![9216, 12288]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S1x4096x12304, .f32⟩
  | .hbm, ⟨2, _⟩ => ⟨S1x12304x4096, .f32⟩
  | .hbm, ⟨3, _⟩ => ⟨S9216x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S9216x4096 : Shape := ⟨2, ![9216, 4096]⟩
abbrev S1x4096x12304 : Shape := ⟨3, ![1, 4096, 12304]⟩
abbrev S1x4096x12288 : Shape := ⟨3, ![1, 4096, 12288]⟩
abbrev S4096x12288 : Shape := ⟨2, ![4096, 12288]⟩
abbrev S9216x12288 : Shape := ⟨2, ![9216, 12288]⟩

abbrev nBuf : Space → Nat
  | .hbm => 7
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x12304, .f32⟩
  | .hbm, ⟨2, _⟩ => ⟨S9216x4096, .f32⟩
  | .hbm, ⟨3, _⟩ => ⟨S1x4096x12288, .f32⟩
  | .hbm, ⟨4, _⟩ => ⟨S4096x12288, .f32⟩
  | .hbm, ⟨5, _⟩ => ⟨S9216x12288, .f32⟩
  | .hbm, ⟨6, _⟩ => ⟨S9216x12288, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S9216x4096 : Shape := ⟨2, ![9216, 4096]⟩
abbrev S1x4096x8192 : Shape := ⟨3, ![1, 4096, 8192]⟩
abbrev S1x8192 : Shape := ⟨2, ![1, 8192]⟩
abbrev S1x1x8192 : Shape := ⟨3, ![1, 1, 8192]⟩
abbrev S1024x4096 : Shape := ⟨2, ![1024, 4096]⟩
abbrev S1x4096x256 : Shape := ⟨3, ![1, 4096, 256]⟩
abbrev S1x1x256 : Shape := ⟨3, ![1, 1, 256]⟩
abbrev S1024x256 : Shape := ⟨2, ![1024, 256]⟩
abbrev S4096x256 : Shape := ⟨2, ![4096, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S9216x4096, .bf16⟩
  | .hbm, ⟨1, _⟩ => ⟨S1x4096x8192, .f32⟩
  | .hbm, ⟨2, _⟩ => ⟨S1x8192, .f32⟩
  | .hbm, ⟨3, _⟩ => ⟨S1x1x8192, .f32⟩
  | .hbm, ⟨4, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1024x256, .f32⟩
  | .local _ .vmem, ⟨11, _⟩ => ⟨S1024x256, .f32⟩
  | .local _ .vmem, ⟨12, _⟩ => ⟨S4096x256, .bf16⟩
  | .local _ .vmem, ⟨13, _⟩ => ⟨S4096x256, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S9216x4096 : Shape := ⟨2, ![9216, 4096]⟩
abbrev S1x4096x8192 : Shape := ⟨3, ![1, 4096, 8192]⟩
abbrev S1x8192 : Shape := ⟨2, ![1, 8192]⟩
abbrev S4096x8192 : Shape := ⟨2, ![4096, 8192]⟩
abbrev S9216x8192 : Shape := ⟨2, ![9216, 8192]⟩
abbrev S8192 : Shape := ⟨1, ![8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x8192, .f32⟩
  | .hbm, ⟨2, _⟩ => ⟨S1x8192, .f32⟩
  | .hbm, ⟨3, _⟩ => ⟨S9216x4096, .f32⟩
  | .hbm, ⟨4, _⟩ => ⟨S4096x8192, .f32⟩
  | .hbm, ⟨5, _⟩ => ⟨S9216x8192, .f32⟩
  | .hbm, ⟨6, _⟩ => ⟨S8192, .f32⟩
  | .hbm, ⟨7, _⟩ => ⟨S1x8192, .f32⟩
  | .hbm, ⟨8, _⟩ => ⟨S9216x8192, .f32⟩
  | .hbm, ⟨9, _⟩ => ⟨S9216x8192, .f32⟩
  | .hbm, ⟨10, _⟩ => ⟨S9216x4096, .f32⟩
  | .hbm, ⟨11, _⟩ => ⟨S9216x4096, .f32⟩
  | .hbm, ⟨12, _⟩ => ⟨S9216x4096, .f32⟩
  | .hbm, ⟨13, _⟩ => ⟨S9216x4096, .f32⟩
  | .hbm, ⟨14, _⟩ => ⟨S_, .f32⟩
  | .hbm, ⟨15, _⟩ => ⟨S9216x4096, .f32⟩
  | .hbm, ⟨16, _⟩ => ⟨S9216x4096, .f32⟩
  | .hbm, ⟨17, _⟩ => ⟨S_, .f32⟩
  | .hbm, ⟨18, _⟩ => ⟨S9216x4096, .f32⟩
  | .hbm, ⟨19, _⟩ => ⟨S9216x4096, .f32⟩
  | .hbm, ⟨20, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel4.lean ====
abbrev S8192x4096 : Shape := ⟨2, ![8192, 4096]⟩
abbrev S1024x4096 : Shape := ⟨2, ![1024, 4096]⟩
abbrev S1x4096x4096 : Shape := ⟨3, ![1, 4096, 4096]⟩
abbrev S9216x4096 : Shape := ⟨2, ![9216, 4096]⟩
abbrev S1x4096x1024 : Shape := ⟨3, ![1, 4096, 1024]⟩
abbrev S512x4096 : Shape := ⟨2, ![512, 4096]⟩
abbrev S512x1024 : Shape := ⟨2, ![512, 1024]⟩
abbrev S4096x1024 : Shape := ⟨2, ![4096, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x4096, .f32⟩
  | .hbm, ⟨3, _⟩ => ⟨S8192x4096, .f32⟩
  | .hbm, ⟨4, _⟩ => ⟨S1024x4096, .f32⟩
  | .hbm, ⟨5, _⟩ => ⟨S9216x4096, .f32⟩
  | .local _ .vmem, ⟨0, _⟩ => ⟨S1x4096x1024, .f32⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c16_i32_2 : BitVec 32 := 16#32
  let v6 : BitVec 1 := Scalar.cmpi .sge arg1 c16_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x4096 : Shape := ⟨2, ![8192, 4096]⟩
abbrev S1024x4096 : Shape := ⟨2, ![1024, 4096]⟩
abbrev S1x4096x4096 : Shape := ⟨3, ![1, 4096, 4096]⟩
abbrev S4096x4096 : Shape := ⟨2, ![4096, 4096]⟩
abbrev S9216x4096 : Shape := ⟨2, ![9216, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x4096, .f32⟩
  | .hbm, ⟨3, _⟩ => ⟨S8192x4096, .f32⟩
  | .hbm, ⟨4, _⟩ => ⟨S1024x4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S1024x4096, .f32⟩
  | .hbm, ⟨9, _⟩ => ⟨S4096x4096, .f32⟩
  | .hbm, ⟨10, _⟩ => ⟨S1024x4096, .f32⟩
  | .hbm, ⟨11, _⟩ => ⟨S8192x4096, .f32⟩
  | .hbm, ⟨12, _⟩ => ⟨S1024x4096, .f32⟩
  | .hbm, ⟨13, _⟩ => ⟨S9216x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S8192x4096 : Shape := ⟨2, ![8192, 4096]⟩
abbrev S1024x4096 : Shape := ⟨2, ![1024, 4096]⟩
abbrev S1x4096x4096 : Shape := ⟨3, ![1, 4096, 4096]⟩
abbrev S1x4096 : Shape := ⟨2, ![1, 4096]⟩
abbrev S9216x4096 : Shape := ⟨2, ![9216, 4096]⟩
abbrev S1x1x4096 : Shape := ⟨3, ![1, 1, 4096]⟩
abbrev S1x4096x1024 : Shape := ⟨3, ![1, 4096, 1024]⟩
abbrev S512x4096 : Shape := ⟨2, ![512, 4096]⟩
abbrev S1x1x1024 : Shape := ⟨3, ![1, 1, 1024]⟩
abbrev S512x1024 : Shape := ⟨2, ![512, 1024]⟩
abbrev S4096x1024 : Shape := ⟨2, ![4096, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x4096, .f32⟩
  | .hbm, ⟨3, _⟩ => ⟨S1x4096, .f32⟩
  | .hbm, ⟨4, _⟩ => ⟨S9216x4096, .f32⟩
  | .hbm, ⟨5, _⟩ => ⟨S1x1x4096, .f32⟩
  | .hbm, ⟨6, _⟩ => ⟨S9216x4096, .f32⟩
  | .local _ .vmem, ⟨0, _⟩ => ⟨S1x4096x1024, .f32⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S1x1x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c16_i32_2 : BitVec 32 := 16#32
  let v6 : BitVec 1 := Scalar.cmpi .sge arg1 c16_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x4096 : Shape := ⟨2, ![8192, 4096]⟩
abbrev S1024x4096 : Shape := ⟨2, ![1024, 4096]⟩
abbrev S1x4096x4096 : Shape := ⟨3, ![1, 4096, 4096]⟩
abbrev S1x4096 : Shape := ⟨2, ![1, 4096]⟩
abbrev S9216x4096 : Shape := ⟨2, ![9216, 4096]⟩
abbrev S4096x4096 : Shape := ⟨2, ![4096, 4096]⟩
abbrev S4096 : Shape := ⟨1, ![4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x4096, .f32⟩
  | .hbm, ⟨3, _⟩ => ⟨S1x4096, .f32⟩
  | .hbm, ⟨4, _⟩ => ⟨S9216x4096, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S1024x4096, .f32⟩
  | .hbm, ⟨13, _⟩ => ⟨S4096x4096, .f32⟩
  | .hbm, ⟨14, _⟩ => ⟨S1024x4096, .f32⟩
  | .hbm, ⟨15, _⟩ => ⟨S4096, .f32⟩
  | .hbm, ⟨16, _⟩ => ⟨S1x4096, .f32⟩
  | .hbm, ⟨17, _⟩ => ⟨S1024x4096, .f32⟩
  | .hbm, ⟨18, _⟩ => ⟨S1024x4096, .f32⟩
  | .hbm, ⟨19, _⟩ => ⟨S8192x4096, .f32⟩
  | .hbm, ⟨20, _⟩ => ⟨S8192x4096, .f32⟩
  | .hbm, ⟨21, _⟩ => ⟨S1024x4096, .f32⟩
  | .hbm, ⟨22, _⟩ => ⟨S1024x4096, .f32⟩
  | .hbm, ⟨23, _⟩ => ⟨S9216x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel6.lean ====
abbrev S9216x12288 : Shape := ⟨2, ![9216, 12288]⟩
abbrev S9216x128 : Shape := ⟨2, ![9216, 128]⟩
abbrev S1x16x2048 : Shape := ⟨3, ![1, 16, 2048]⟩
abbrev S1x2048 : Shape := ⟨2, ![1, 2048]⟩
abbrev S1x1024 : Shape := ⟨2, ![1, 1024]⟩
abbrev S1x128x4x512x1024 : Shape := ⟨5, ![1, 128, 4, 512, 1024]⟩
abbrev S16x2048 : Shape := ⟨2, ![16, 2048]⟩
abbrev S_ : Shape := ⟨0, ![]⟩
abbrev S128x2048 : Shape := ⟨2, ![128, 2048]⟩
abbrev S1x1x2048 : Shape := ⟨3, ![1, 1, 2048]⟩
abbrev S1x1x1024 : Shape := ⟨3, ![1, 1, 1024]⟩
abbrev S1024x4096 : Shape := ⟨2, ![1024, 4096]⟩
abbrev S128x4x512x1024 : Shape := ⟨4, ![128, 4, 512, 1024]⟩
abbrev S16x512 : Shape := ⟨2, ![16, 512]⟩
abbrev S16x1024 : Shape := ⟨2, ![16, 1024]⟩
abbrev S16x128 : Shape := ⟨2, ![16, 128]⟩
abbrev S128x512 : Shape := ⟨2, ![128, 512]⟩
abbrev S1x1x512 : Shape := ⟨3, ![1, 1, 512]⟩
abbrev S1x2x1x512x1024 : Shape := ⟨5, ![1, 2, 1, 512, 1024]⟩
abbrev S2x1x512x1024 : Shape := ⟨4, ![2, 1, 512, 1024]⟩
abbrev S2x512x1024 : Shape := ⟨3, ![2, 512, 1024]⟩
abbrev S1x512 : Shape := ⟨2, ![1, 512]⟩
abbrev S16x16 : Shape := ⟨2, ![16, 16]⟩
abbrev S16x1 : Shape := ⟨2, ![16, 1]⟩
abbrev S1x512x1024 : Shape := ⟨3, ![1, 512, 1024]⟩
abbrev S512x1024 : Shape := ⟨2, ![512, 1024]⟩
abbrev S512x128 : Shape := ⟨2, ![512, 128]⟩
abbrev S16 : Shape := ⟨1, ![16]⟩

abbrev nBuf : Space → Nat
  | .hbm => 14
  | .vmem => 22
  | .smem => 0
  | _ => 0

abbrev bufTy : (tb : Table) → Fin (tcTables nBuf tb) → BufTy
  | .hbm, ⟨0, _⟩ => ⟨S9216x12288, .bf16⟩
  | .hbm, ⟨1, _⟩ => ⟨S9216x128, .f32⟩
  | .hbm, ⟨2, _⟩ => ⟨S1x16x2048, .f32⟩
  | .hbm, ⟨3, _⟩ => ⟨S1x2048, .f32⟩
  | .hbm, ⟨4, _⟩ => ⟨S1x1024, .f32⟩
  | .hbm, ⟨5, _⟩ => ⟨S1x128x4x512x1024, .f32⟩
  | .hbm, ⟨6, _⟩ => ⟨S16x2048, .f32⟩
  | .hbm, ⟨7, _⟩ => ⟨S_, .i32⟩
  | .hbm, ⟨8, _⟩ => ⟨S_, .f32⟩
  | .hbm, ⟨9, _⟩ => ⟨S128x2048, .f32⟩
  | .hbm, ⟨10, _⟩ => ⟨S1x1x2048, .f32⟩
  | .hbm, ⟨11, _⟩ => ⟨S1x1x1024, .f32⟩
  | .hbm, ⟨12, _⟩ => ⟨S1024x4096, .bf16⟩
  | .hbm, ⟨13, _⟩ => ⟨S128x4x512x1024, .f32⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S16x128, .f32⟩
  | .local _ .vmem, ⟨9, _⟩ => ⟨S16x128, .f32⟩
  | .local _ .vmem, ⟨10, _⟩ => ⟨S128x512, .f32⟩
  | .local _ .vmem, ⟨11, _⟩ => ⟨S128x512, .f32⟩
  | .local _ .vmem, ⟨12, _⟩ => ⟨S1x1x512, .f32⟩
  | .local _ .vmem, ⟨13, _⟩ => ⟨S1x1x512, .f32⟩
  | .local _ .vmem, ⟨14, _⟩ => ⟨S1x1x1024, .f32⟩
  | .local _ .vmem, ⟨15, _⟩ => ⟨S1x2x1x512x1024, .f32⟩
  | .local _ .vmem, ⟨16, _⟩ => ⟨S1x2x1x512x1024, .f32⟩
  | .local _ .vmem, ⟨17, _⟩ => ⟨S16x1024, .bf16⟩
  | .local _ .vmem, ⟨18, _⟩ => ⟨S16x1024, .bf16⟩
  | .local _ .vmem, ⟨19, _⟩ => ⟨S2x1x512x1024, .f32⟩
  | .local _ .vmem, ⟨20, _⟩ => ⟨S2x1x512x1024, .f32⟩
  | .local _ .vmem, ⟨21, _⟩ => ⟨S2x512x1024, .f32⟩
  | _, _ => ⟨S9216x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![64, 4, 1], ![false, false, false]⟩

def k0_cond2 (i : grid0.Coords) : BitVec 1 :=
  let arg2 : BitVec 32 := BitVec.ofNat 32 (i 2).val
  let c0_i32_69 : BitVec 32 := 0#32
  let v172 : BitVec 1 := Scalar.cmpi .eq arg2 c0_i32_69
  let v173 : BitVec 32 := Scalar.extui v172
  let c0_i32_70 : BitVec 32 := 0#32
  let v174 : BitVec 1 := Scalar.cmpi .ne v173 c0_i32_70
  v174

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c4_i32 : BitVec 32 := 4#32
  let v3 : BitVec 32 := Scalar.addi c4_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c4_i32 : BitVec 32 := 4#32
  let v3 : BitVec 32 := Scalar.addi c4_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c8_i32 : BitVec 32 := 8#32
  let v3 : BitVec 32 := Scalar.addi c8_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2x1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2x1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference6Ideal.lean ====
abbrev S9216x12288 : Shape := ⟨2, ![9216, 12288]⟩
abbrev S9216x128 : Shape := ⟨2, ![9216, 128]⟩
abbrev S1x16x2048 : Shape := ⟨3, ![1, 16, 2048]⟩
abbrev S1x2048 : Shape := ⟨2, ![1, 2048]⟩
abbrev S1x1024 : Shape := ⟨2, ![1, 1024]⟩
abbrev S1x128x4x512x1024 : Shape := ⟨5, ![1, 128, 4, 512, 1024]⟩
abbrev S16x2048 : Shape := ⟨2, ![16, 2048]⟩
abbrev S2048 : Shape := ⟨1, ![2048]⟩
abbrev S1024x8192 : Shape := ⟨2, ![1024, 8192]⟩
abbrev S128x8x8192 : Shape := ⟨3, ![128, 8, 8192]⟩
abbrev S1024x16 : Shape := ⟨2, ![1024, 16]⟩
abbrev S128x8x16 : Shape := ⟨3, ![128, 8, 16]⟩
abbrev S128x8x2048 : Shape := ⟨3, ![128, 8, 2048]⟩
abbrev S1x1x2048 : Shape := ⟨3, ![1, 1, 2048]⟩
abbrev S_ : Shape := ⟨0, ![]⟩
abbrev S128x8x4x512 : Shape := ⟨4, ![128, 8, 4, 512]⟩
abbrev S128x4x8x512 : Shape := ⟨4, ![128, 4, 8, 512]⟩
abbrev S128x8x4096 : Shape := ⟨3, ![128, 8, 4096]⟩
abbrev S128x8x4x1024 : Shape := ⟨4, ![128, 8, 4, 1024]⟩
abbrev S128x4x8x1024 : Shape := ⟨4, ![128, 4, 8, 1024]⟩
abbrev S128x4x512x1024 : Shape := ⟨4, ![128, 4, 512, 1024]⟩
abbrev S8x8 : Shape := ⟨2, ![8, 8]⟩
abbrev S128x4x1x512 : Shape := ⟨4, ![128, 4, 1, 512]⟩
abbrev S128x4x8x8 : Shape := ⟨4, ![128, 4, 8, 8]⟩
abbrev S128x4x512 : Shape := ⟨3, ![128, 4, 512]⟩
abbrev S128x4x512x1 : Shape := ⟨4, ![128, 4, 512, 1]⟩
abbrev S128x8x4 : Shape := ⟨3, ![128, 8, 4]⟩
abbrev S128x8x4x1 : Shape := ⟨4, ![128, 8, 4, 1]⟩
abbrev S1024 : Shape := ⟨1, ![1024]⟩
abbrev S1x1x1x1024 : Shape := ⟨4, ![1, 1, 1, 1024]⟩
abbrev S1024x4096 : Shape := ⟨2, ![1024, 4096]⟩

abbrev nBuf : Space → Nat
  | .hbm => 125
  | .vmem => 0
  | .smem => 0
  | _ => 0

abbrev bufTy : (tb : Table) → Fin (tcTables nBuf tb) → BufTy
  | .hbm, ⟨0, _⟩ => ⟨S9216x12288, .bf16⟩
  | .hbm, ⟨1, _⟩ => ⟨S9216x128, .f32⟩
  | .hbm, ⟨2, _⟩ => ⟨S1x16x2048, .f32⟩
  | .hbm, ⟨3, _⟩ => ⟨S1x2048, .f32⟩
  | .hbm, ⟨4, _⟩ => ⟨S1x1024, .f32⟩
  | .hbm, ⟨5, _⟩ => ⟨S1x128x4x512x1024, .f32⟩
  | .hbm, ⟨6, _⟩ => ⟨S16x2048, .f32⟩
  | .hbm, ⟨7, _⟩ => ⟨S2048, .f32⟩
  | .hbm, ⟨8, _⟩ => ⟨S1024x8192, .bf16⟩
  | .hbm, ⟨9, _⟩ => ⟨S1024x8192, .f32⟩
  | .hbm, ⟨10, _⟩ => ⟨S128x8x8192, .f32⟩
  | .hbm, ⟨11, _⟩ => ⟨S1024x16, .f32⟩
  | .hbm, ⟨12, _⟩ => ⟨S128x8x16, .f32⟩
  | .hbm, ⟨13, _⟩ => ⟨S128x8x2048, .f32⟩
  | .hbm, ⟨14, _⟩ => ⟨S1x1x2048, .f32⟩
  | .hbm, ⟨15, _⟩ => ⟨S128x8x2048, .f32⟩
  | .hbm, ⟨16, _⟩ => ⟨S128x8x2048, .f32⟩
  | .hbm, ⟨17, _⟩ => ⟨S128x8x2048, .f32⟩
  | .hbm, ⟨18, _⟩ => ⟨S_, .f32⟩
  | .hbm, ⟨19, _⟩ => ⟨S128x8x2048, .f32⟩
  | .hbm, ⟨20, _⟩ => ⟨S128x8x2048, .f32⟩
  | .hbm, ⟨21, _⟩ => ⟨S128x8x2048, .f32⟩
  | .hbm, ⟨22, _⟩ => ⟨S128x8x2048, .f32⟩
  | .hbm, ⟨23, _⟩ => ⟨S128x8x2048, .i1⟩
  | .hbm, ⟨24, _⟩ => ⟨S128x8x2048, .f32⟩
  | .hbm, ⟨25, _⟩ => ⟨S128x8x2048, .f32⟩
  | .hbm, ⟨26, _⟩ => ⟨S128x8x2048, .f32⟩
  | .hbm, ⟨27, _⟩ => ⟨S128x8x2048, .f32⟩
  | .hbm, ⟨28, _⟩ => ⟨S128x8x2048, .f32⟩
  | .hbm, ⟨29, _⟩ => ⟨S128x8x2048, .f32⟩
  | .hbm, ⟨30, _⟩ => ⟨S128x8x2048, .f32⟩
  | .hbm, ⟨31, _⟩ => ⟨S128x8x2048, .f32⟩
  | .hbm, ⟨32, _⟩ => ⟨S128x8x2048, .f32⟩
  | .hbm, ⟨33, _⟩ => ⟨S_, .f32⟩
  | .hbm, ⟨34, _⟩ => ⟨S128x8x2048, .f32⟩
  | .hbm, ⟨35, _⟩ => ⟨S128x8x2048, .f32⟩
  | .hbm, ⟨36, _⟩ => ⟨S128x8x2048, .f32⟩
  | .hbm, ⟨37, _⟩ => ⟨S128x8x4x512, .f32⟩
  | .hbm, ⟨38, _⟩ => ⟨S128x4x8x512, .f32⟩
  | .hbm, ⟨39, _⟩ => ⟨S_, .f32⟩
  | .hbm, ⟨40, _⟩ => ⟨S128x4x8x512, .f32⟩
  | .hbm, ⟨41, _⟩ => ⟨S128x4x8x512, .f32⟩
  | .hbm, ⟨42, _⟩ => ⟨S128x8x2048, .f32⟩
  | .hbm, ⟨43, _⟩ => ⟨S128x8x4x512, .f32⟩
  | .hbm, ⟨44, _⟩ => ⟨S128x4x8x512, .f32⟩
  | .hbm, ⟨45, _⟩ => ⟨S128x8x4096, .f32⟩
  | .hbm, ⟨46, _⟩ => ⟨S128x8x4x1024, .f32⟩
  | .hbm, ⟨47, _⟩ => ⟨S128x4x8x1024, .f32⟩
  | .hbm, ⟨48, _⟩ => ⟨S128x4x512x1024, .f32⟩
  | .hbm, ⟨49, _⟩ => ⟨S_, .i1⟩
  | .hbm, ⟨50, _⟩ => ⟨S8x8, .i1⟩
  | .hbm, ⟨51, _⟩ => ⟨S8x8, .i32⟩
  | .hbm, ⟨52, _⟩ => ⟨S_, .i32⟩
  | .hbm, ⟨53, _⟩ => ⟨S8x8, .i32⟩
  | .hbm, ⟨54, _⟩ => ⟨S8x8, .i32⟩
  | .hbm, ⟨55, _⟩ => ⟨S8x8, .i32⟩
  | .hbm, ⟨56, _⟩ => ⟨S8x8, .i1⟩
  | .hbm, ⟨57, _⟩ => ⟨S_, .i1⟩
  | .hbm, ⟨58, _⟩ => ⟨S8x8, .i1⟩
  | .hbm, ⟨59, _⟩ => ⟨S8x8, .i1⟩
  | .hbm, ⟨60, _⟩ => ⟨S128x8x4x512, .f32⟩
  | .hbm, ⟨61, _⟩ => ⟨S128x4x8x512, .f32⟩
  | .hbm, ⟨62, _⟩ => ⟨S_, .f32⟩
  | .hbm, ⟨63, _⟩ => ⟨S_, .f32⟩
  | .hbm, ⟨64, _⟩ => ⟨S128x4x8x512, .f32⟩
  | .hbm, ⟨65, _⟩ => ⟨S128x4x1x512, .f32⟩
  | .hbm, ⟨66, _⟩ => ⟨S128x4x8x512, .f32⟩
  | .hbm, ⟨67, _⟩ => ⟨S128x4x8x512, .f32⟩
  | .hbm, ⟨68, _⟩ => ⟨S128x4x8x512, .f32⟩
  | .hbm, ⟨69, _⟩ => ⟨S128x4x8x512, .f32⟩
  | .hbm, ⟨70, _⟩ => ⟨S128x4x8x512, .f32⟩
  | .hbm, ⟨71, _⟩ => ⟨S128x4x8x8, .f32⟩
  | .hbm, ⟨72, _⟩ => ⟨S_, .f32⟩
  | .hbm, ⟨73, _⟩ => ⟨S_, .f32⟩
  | .hbm, ⟨74, _⟩ => ⟨S128x4x8x8, .i1⟩
  | .hbm, ⟨75, _⟩ => ⟨S128x4x8x8, .f32⟩
  | .hbm, ⟨76, _⟩ => ⟨S128x4x8x8, .f32⟩
  | .hbm, ⟨77, _⟩ => ⟨S128x4x8x1024, .f32⟩
  | .hbm, ⟨78, _⟩ => ⟨S128x4x8x1024, .f32⟩
  | .hbm, ⟨79, _⟩ => ⟨S128x4x8x1024, .f32⟩
  | .hbm, ⟨80, _⟩ => ⟨S128x4x1x512, .f32⟩
  | .hbm, ⟨81, _⟩ => ⟨S128x4x512, .f32⟩
  | .hbm, ⟨82, _⟩ => ⟨S128x4x512x1, .f32⟩
  | .hbm, ⟨83, _⟩ => ⟨S128x4x512x1024, .f32⟩
  | .hbm, ⟨84, _⟩ => ⟨S128x4x512x1024, .f32⟩
  | .hbm, ⟨85, _⟩ => ⟨S128x4x8x512, .f32⟩
  | .hbm, ⟨86, _⟩ => ⟨S128x4x8x512, .f32⟩
  | .hbm, ⟨87, _⟩ => ⟨S128x4x8x512, .f32⟩
  | .hbm, ⟨88, _⟩ => ⟨S128x4x8x512, .f32⟩
  | .hbm, ⟨89, _⟩ => ⟨S128x4x512x1024, .f32⟩
  | .hbm, ⟨90, _⟩ => ⟨S128x4x512x1024, .f32⟩
  | .hbm, ⟨91, _⟩ => ⟨S128x8x4x1024, .f32⟩
  | .hbm, ⟨92, _⟩ => ⟨S128x8x4x1024, .f32⟩
  | .hbm, ⟨93, _⟩ => ⟨S_, .f32⟩
  | .hbm, ⟨94, _⟩ => ⟨S128x8x4, .f32⟩
  | .hbm, ⟨95, _⟩ => ⟨S128x8x4x1, .f32⟩
  | .hbm, ⟨96, _⟩ => ⟨S_, .f32⟩
  | .hbm, ⟨97, _⟩ => ⟨S128x8x4x1, .f32⟩
  | .hbm, ⟨98, _⟩ => ⟨S128x8x4x1, .f32⟩
  | .hbm, ⟨99, _⟩ => ⟨S_, .f32⟩
  | .hbm, ⟨100, _⟩ => ⟨S128x8x4x1, .f32⟩
  | .hbm, ⟨101, _⟩ => ⟨S128x8x4x1, .f32⟩
  | .hbm, ⟨102, _⟩ => ⟨S128x8x4x1, .f32⟩
  | .hbm, ⟨103, _⟩ => ⟨S128x8x4x1024, .f32⟩
  | .hbm, ⟨104, _⟩ => ⟨S128x8x4x1024, .f32⟩
  | .hbm, ⟨105, _⟩ => ⟨S1024, .f32⟩
  | .hbm, ⟨106, _⟩ => ⟨S1x1x1x1024, .f32⟩
  | .hbm, ⟨107, _⟩ => ⟨S128x8x4x1024, .f32⟩
  | .hbm, ⟨108, _⟩ => ⟨S128x8x4x1024, .f32⟩
  | .hbm, ⟨109, _⟩ => ⟨S1024x4096, .bf16⟩
  | .hbm, ⟨110, _⟩ => ⟨S1024x4096, .f32⟩
  | .hbm, ⟨111, _⟩ => ⟨S128x8x4096, .f32⟩
  | .hbm, ⟨112, _⟩ => ⟨S128x8x4096, .f32⟩
  | .hbm, ⟨113, _⟩ => ⟨S128x8x4096, .f32⟩
  | .hbm, ⟨114, _⟩ => ⟨S128x8x4096, .f32⟩
  | .hbm, ⟨115, _⟩ => ⟨S_, .f32⟩
  | .hbm, ⟨116, _⟩ => ⟨S128x8x4096, .f32⟩
  | .hbm, ⟨117, _⟩ => ⟨S128x8x4096, .f32⟩
  | .hbm, ⟨118, _⟩ => ⟨S_, .f32⟩
  | .hbm, ⟨119, _⟩ => ⟨S128x8x4096, .f32⟩
  | .hbm, ⟨120, _⟩ => ⟨S128x8x4096, .f32⟩
  | .hbm, ⟨121, _⟩ => ⟨S128x8x4096, .f32⟩
  | .hbm, ⟨122, _⟩ => ⟨S128x8x4096, .f32⟩
  | .hbm, ⟨123, _⟩ => ⟨S1024x4096, .f32⟩
  | .hbm, ⟨124, _⟩ => ⟨S1024x4096, .bf16⟩
  | _, _ => ⟨S9216x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_0 : Ref sig .tc := ⟨.hbm, 57, rfl⟩
abbrev main_call1_v5 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call2_call0_cst : Ref sig .tc := ⟨.hbm, 62, rfl⟩
abbrev main_call2_call0_v0 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_2 : Ref sig .tc := ⟨.hbm, 93, rfl⟩
abbrev main_v57 : Ref sig .tc := ⟨.hbm, 94, rfl⟩
abbrev main_v58 : Ref sig .tc := ⟨.hbm, 95, rfl⟩
abbrev main_cst_3 : Ref sig .tc := ⟨.hbm, 96, rfl⟩
abbrev main_v59 : Ref sig .tc := ⟨.hbm, 97, rfl⟩
abbrev main_v60 : Ref sig .tc := ⟨.hbm, 98, rfl⟩
abbrev main_cst_4 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call4_v0 : Ref sig .tc := ⟨.hbm, 113, rfl⟩
abbrev main_call4_v1 : Ref sig .tc := ⟨.hbm, 114, rfl⟩
abbrev main_call4_cst : Ref sig .tc := ⟨.hbm, 115, rfl⟩
abbrev main_call4_v2 : Ref sig .tc := ⟨.hbm, 116, rfl⟩
abbrev main_call4_v3 : Ref sig .tc := ⟨.hbm, 117, rfl⟩
abbrev main_call4_cst_0 : Ref sig .tc := ⟨.hbm, 118, rfl⟩
abbrev main_call4_v4 : Ref sig .tc := ⟨.hbm, 119, rfl⟩
abbrev main_call4_v5 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩

abbrev nD : Nat := 1
abbrev τ : Topo := Topo.v7x

variable {F : FTy → Type} [FloatOps F]
-- ==== Kernel7.lean ====
abbrev S9216x4096 : Shape := ⟨2, ![9216, 4096]⟩
abbrev S1x31x4096 : Shape := ⟨3, ![1, 31, 4096]⟩
abbrev S1x4096 : Shape := ⟨2, ![1, 4096]⟩
abbrev S1x1x4096 : Shape := ⟨3, ![1, 1, 4096]⟩
abbrev S8192x4096 : Shape := ⟨2, ![8192, 4096]⟩
abbrev S4x30x4096 : Shape := ⟨3, ![4, 30, 4096]⟩
abbrev S128x4096 : Shape := ⟨2, ![128, 4096]⟩
abbrev S1x30x4096 : Shape := ⟨3, ![1, 30, 4096]⟩
abbrev S1x160x4096 : Shape := ⟨3, ![1, 160, 4096]⟩
abbrev S7x152x4096 : Shape := ⟨3, ![7, 152, 4096]⟩
abbrev S32x4096 : Shape := ⟨2, ![32, 4096]⟩
abbrev S1x32x4096 : Shape := ⟨3, ![1, 32, 4096]⟩
abbrev S1x128x4096 : Shape := ⟨3, ![1, 128, 4096]⟩
abbrev S1x152x4096 : Shape := ⟨3, ![1, 152, 4096]⟩
abbrev S152x4096 : Shape := ⟨2, ![152, 4096]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S30x4096 : Shape := ⟨2, ![30, 4096]⟩
abbrev S128 : Shape := ⟨1, ![128]⟩
abbrev S128x1 : Shape := ⟨2, ![128, 1]⟩

abbrev nBuf : Space → Nat
  | .hbm => 10
  | .vmem => 13
  | .smem => 0
  | _ => 0

abbrev bufTy : (tb : Table) → Fin (tcTables nBuf tb) → BufTy
  | .hbm, ⟨0, _⟩ => ⟨S9216x4096, .f32⟩
  | .hbm, ⟨1, _⟩ => ⟨S1x31x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x1x4096, .f32⟩
  | .hbm, ⟨6, _⟩ => ⟨S1x1x4096, .f32⟩
  | .hbm, ⟨7, _⟩ => ⟨S1x1x4096, .f32⟩
  | .hbm, ⟨8, _⟩ => ⟨S8192x4096, .bf16⟩
  | .hbm, ⟨9, _⟩ => ⟨S4x30x4096, .f32⟩
  | .local _ .vmem, ⟨0, _⟩ => ⟨S128x4096, .f32⟩
  | .local _ .vmem, ⟨1, _⟩ => ⟨S128x4096, .f32⟩
  | .local _ .vmem, ⟨2, _⟩ => ⟨S1x31x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S128x4096, .bf16⟩
  | .local _ .vmem, ⟨7, _⟩ => ⟨S128x4096, .bf16⟩
  | .local _ .vmem, ⟨8, _⟩ => ⟨S1x30x4096, .f32⟩
  | .local _ .vmem, ⟨9, _⟩ => ⟨S1x30x4096, .f32⟩
  | .local _ .vmem, ⟨10, _⟩ => ⟨S1x160x4096, .f32⟩
  | .local _ .vmem, ⟨11, _⟩ => ⟨S7x152x4096, .f32⟩
  | .local _ .vmem, ⟨12, _⟩ => ⟨S128x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 16], ![false, false]⟩

def k0_cond3 (i : grid0.Coords) : BitVec 1 :=
  let arg1 : BitVec 32 := BitVec.ofNat 32 (i 1).val
  let c15_i32 : BitVec 32 := 15#32
  let v7245 : BitVec 1 := Scalar.cmpi .eq arg1 c15_i32
  let v7246 : BitVec 32 := Scalar.extui v7245
  let c0_i32_6130 : BitVec 32 := 0#32
  let v7247 : BitVec 1 := Scalar.cmpi .ne v7246 c0_i32_6130
  v7247

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x31x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x30x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S9216x4096 : Shape := ⟨2, ![9216, 4096]⟩
abbrev S1x31x4096 : Shape := ⟨3, ![1, 31, 4096]⟩
abbrev S1x4096 : Shape := ⟨2, ![1, 4096]⟩
abbrev S8192x4096 : Shape := ⟨2, ![8192, 4096]⟩
abbrev S4x2048x4096 : Shape := ⟨3, ![4, 2048, 4096]⟩
abbrev S_ : Shape := ⟨0, ![]⟩
abbrev S4x30x4096 : Shape := ⟨3, ![4, 30, 4096]⟩
abbrev S4x2078x4096 : Shape := ⟨3, ![4, 2078, 4096]⟩

abbrev nBuf : Space → Nat
  | .hbm => 11
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x31x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .hbm, ⟨7, _⟩ => ⟨S_, .f32⟩
  | .hbm, ⟨8, _⟩ => ⟨S4x30x4096, .f32⟩
  | .hbm, ⟨9, _⟩ => ⟨S4x2078x4096, .f32⟩
  | .hbm, ⟨10, _⟩ => ⟨S4x30x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel8.lean ====
abbrev S9216x4096 : Shape := ⟨2, ![9216, 4096]⟩
abbrev S1x31x4096 : Shape := ⟨3, ![1, 31, 4096]⟩
abbrev S1x4096 : Shape := ⟨2, ![1, 4096]⟩
abbrev S1x128x30x4096 : Shape := ⟨4, ![1, 128, 30, 4096]⟩
abbrev S1x1x4096 : Shape := ⟨3, ![1, 1, 4096]⟩
abbrev S1024x4096 : Shape := ⟨2, ![1024, 4096]⟩
abbrev S128x30x4096 : Shape := ⟨3, ![128, 30, 4096]⟩
abbrev S16x4096 : Shape := ⟨2, ![16, 4096]⟩
abbrev S1x2x30x4096 : Shape := ⟨4, ![1, 2, 30, 4096]⟩
abbrev S2x30x4096 : Shape := ⟨3, ![2, 30, 4096]⟩
abbrev S2x40x4096 : Shape := ⟨3, ![2, 40, 4096]⟩
abbrev S7x32x4096 : Shape := ⟨3, ![7, 32, 4096]⟩
abbrev S32x4096 : Shape := ⟨2, ![32, 4096]⟩
abbrev S1x32x4096 : Shape := ⟨3, ![1, 32, 4096]⟩
abbrev S1x1x30x4096 : Shape := ⟨4, ![1, 1, 30, 4096]⟩
abbrev S30x4096 : Shape := ⟨2, ![30, 4096]⟩
abbrev S1x30x4096 : Shape := ⟨3, ![1, 30, 4096]⟩
abbrev S8x4096 : Shape := ⟨2, ![8, 4096]⟩
abbrev S1x8x4096 : Shape := ⟨3, ![1, 8, 4096]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩
abbrev S16 : Shape := ⟨1, ![16]⟩
abbrev S16x1 : Shape := ⟨2, ![16, 1]⟩

abbrev nBuf : Space → Nat
  | .hbm => 11
  | .vmem => 15
  | .smem => 0
  | _ => 0

abbrev bufTy : (tb : Table) → Fin (tcTables nBuf tb) → BufTy
  | .hbm, ⟨0, _⟩ => ⟨S9216x4096, .f32⟩
  | .hbm, ⟨1, _⟩ => ⟨S1x31x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x128x30x4096, .f32⟩
  | .hbm, ⟨6, _⟩ => ⟨S1x1x4096, .f32⟩
  | .hbm, ⟨7, _⟩ => ⟨S1x1x4096, .f32⟩
  | .hbm, ⟨8, _⟩ => ⟨S1x1x4096, .f32⟩
  | .hbm, ⟨9, _⟩ => ⟨S1024x4096, .bf16⟩
  | .hbm, ⟨10, _⟩ => ⟨S128x30x4096, .f32⟩
  | .local _ .vmem, ⟨0, _⟩ => ⟨S16x4096, .f32⟩
  | .local _ .vmem, ⟨1, _⟩ => ⟨S16x4096, .f32⟩
  | .local _ .vmem, ⟨2, _⟩ => ⟨S1x31x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x2x30x4096, .f32⟩
  | .local _ .vmem, ⟨7, _⟩ => ⟨S1x2x30x4096, .f32⟩
  | .local _ .vmem, ⟨8, _⟩ => ⟨S16x4096, .bf16⟩
  | .local _ .vmem, ⟨9, _⟩ => ⟨S16x4096, .bf16⟩
  | .local _ .vmem, ⟨10, _⟩ => ⟨S2x30x4096, .f32⟩
  | .local _ .vmem, ⟨11, _⟩ => ⟨S2x30x4096, .f32⟩
  | .local _ .vmem, ⟨12, _⟩ => ⟨S2x40x4096, .f32⟩
  | .local _ .vmem, ⟨13, _⟩ => ⟨S7x32x4096, .f32⟩
  | .local _ .vmem, ⟨14, _⟩ => ⟨S16x4096, .f32⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![64, 1], ![false, false]⟩

def k0_cond3 (i : grid0.Coords) : BitVec 1 :=
  let arg1 : BitVec 32 := BitVec.ofNat 32 (i 1).val
  let c0_i32_6130 : BitVec 32 := 0#32
  let v7245 : BitVec 1 := Scalar.cmpi .eq arg1 c0_i32_6130
  let v7246 : BitVec 32 := Scalar.extui v7245
  let c0_i32_6131 : BitVec 32 := 0#32
  let v7247 : BitVec 1 := Scalar.cmpi .ne v7246 c0_i32_6131
  v7247

def k0_cond6 (i : grid0.Coords) : BitVec 1 :=
  let arg1 : BitVec 32 := BitVec.ofNat 32 (i 1).val
  let c0_i32_12327 : BitVec 32 := 0#32
  let v14493 : BitVec 1 := Scalar.cmpi .eq arg1 c0_i32_12327
  let v14494 : BitVec 32 := Scalar.extui v14493
  let c0_i32_12328 : BitVec 32 := 0#32
  let v14495 : BitVec 1 := Scalar.cmpi .ne v14494 c0_i32_12328
  v14495

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x31x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x30x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x30x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S9216x4096 : Shape := ⟨2, ![9216, 4096]⟩
abbrev S1x31x4096 : Shape := ⟨3, ![1, 31, 4096]⟩
abbrev S1x4096 : Shape := ⟨2, ![1, 4096]⟩
abbrev S1x128x30x4096 : Shape := ⟨4, ![1, 128, 30, 4096]⟩
abbrev S1024x4096 : Shape := ⟨2, ![1024, 4096]⟩
abbrev S128x8x4096 : Shape := ⟨3, ![128, 8, 4096]⟩
abbrev S128x30x4096 : Shape := ⟨3, ![128, 30, 4096]⟩
abbrev S128x38x4096 : Shape := ⟨3, ![128, 38, 4096]⟩

abbrev nBuf : Space → Nat
  | .hbm => 11
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x31x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x128x30x4096, .f32⟩
  | .hbm, ⟨6, _⟩ => ⟨S1024x4096, .f32⟩
  | .hbm, ⟨7, _⟩ => ⟨S128x8x4096, .f32⟩
  | .hbm, ⟨8, _⟩ => ⟨S128x30x4096, .f32⟩
  | .hbm, ⟨9, _⟩ => ⟨S128x38x4096, .f32⟩
  | .hbm, ⟨10, _⟩ => ⟨S128x30x4096, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.Proj.lean ====
/-
  The projection to queries, keys, values and output gates: what the kernel's blocks and its kept weight tile hold, the array
  it leaves, and that the reference computes the same.
-/
module

public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Pipeline.Value
public import Idealize.ShloMosaic.Lib.StableHlo.ReadAt
public import proofs.«01_k».proof.Proof.Gen.Kernel2Ideal.Value
public import proofs.«01_k».proof.Proof.Gen.Reference2Ideal.Run

@[expose] public section

set_option maxRecDepth 16384

noncomputable section

namespace Cert.Proj

open Idealize.ShloMosaic Idealize.ShloMosaic.TcCoe Idealize.SL.Sem

/-- The projection's element: row `r` of the hidden states against column `j` of the weight. -/
def proj (h : FVec Ideal ⟨2, ![9216, 4096]⟩ .bf16) (w : FVec Ideal ⟨3, ![1, 4096, 12304]⟩ .f32) (r : Fin 9216) (j : Fin 12288) : EReal :=
  ∑ k : Fin 4096, h (ix2 r k) * w (ix3 0 k ⟨j.val, by omega⟩)

/-! ## The kernel -/

section kernel

open Cert.Kernel2Ideal Cert.Kernel2Ideal.Gen

variable (m : (ℓ : Loc nD τ sig) → Buf (Elt Ideal) ℓ) (c : Dev nD) (t : Fin cfg0.N)

abbrev argH : FVec Ideal S9216x4096 .bf16 := m ((c : Thread nD τ).loc main_arg0)
abbrev argW : FVec Ideal S1x4096x12304 .f32 := m ((c : Thread nD τ).loc main_arg1)

theorem lt_N : t.val < 216 := lt_of_lt_of_eq t.isLt N_0

/-- The host swaps the weight's axes. -/
theorem host_w (x : Fin 12304) (k : Fin 4096) : (V m c main_v0 : FVec Ideal S1x12304x4096 .f32) (ix3 0 x k) = argW m c (ix3 0 k x) := by
  unfold V
  after_reads_at

theorem idx0 : ∀ t : Fin cfg0.N, win0_0.index t = ![t.val % 9, 0] := by decide +kernel
theorem idx1 : ∀ t : Fin cfg0.N, win0_1.index t = ![0, t.val / 9, 0] := by decide +kernel
theorem idx2 : ∀ t : Fin cfg0.N, win0_2.index t = ![t.val % 9, t.val / 9] := by decide +kernel

/-- A point's block of rows. -/
theorem blk_h (r : Fin 1024) (k : Fin 4096) :
    (iblk m c 0 t : FVec Ideal S1024x4096 .bf16) (ix2 r k) = argH m c (ix2 ⟨t.val % 9 * 1024 + r.val, by omega⟩ k) := by
  blk_simp [iblk]
  entry_read
  blk_ext!
  all_goals simp [idx0]

/-- A point's block of the weight. -/
theorem blk_w (x : Fin 512) (k : Fin 4096) :
    (X0_1 m c t : FVec Ideal S1x512x4096 .f32) (ix3 0 x k)
      = argW m c (ix3 0 k ⟨t.val / 9 * 512 + x.val, by have := lt_N t; omega⟩) := by
  refine Eq.trans ?_ (host_w m c ⟨t.val / 9 * 512 + x.val, by have := lt_N t; omega⟩ k)
  unfold X0_1 Pipeline.Window.fill
  rw [dif_pos (moved0_1 t _)]
  blk_simp [iblk]
  blk_ext!
  all_goals simp [idx1]

theorem pay1_apply (w : FVec Ideal S1x512x4096 .f32) (x : Fin 512) (k : Fin 4096) :
    (k0_pay1 (F := Ideal) w) (ix2 x k) = w (ix3 0 x k) := by
  pointwise [k0_pay1]
theorem pay2_apply (h : FVec Ideal S1024x4096 .bf16) (w : FVec Ideal S512x4096 .bf16) (r : Fin 1024) (x : Fin 512) :
    (k0_pay2 (F := Ideal) h w) (ix2 r x) = ∑ k : Fin 4096, h (ix2 r k) * w (ix2 x k) := by
  pointwise [k0_pay2]

/-- The weight tile a point leaves in the scratch: its own block at the first point of a column of the grid, what the point
    before left at the others. -/
def tile : FVec Ideal S512x4096 .bf16 :=
  if t.val % 9 = 0 then k0_pay1 (F := Ideal) (X0_1 m c t) else (outsAt0 m c (t.val - 1) (Nat.lt_of_le_of_lt (Nat.sub_le _ _) t.isLt)).2

theorem outs_tile : (outsAt0 m c t.val t.isLt).2 = tile m c t := by
  unfold tile
  by_cases h0 : t.val % 9 = 0
  · rw [if_pos h0, outsAt0_A m c t h0]
    frame_out
  · rw [if_neg h0, outsAt0_B m c t h0]
    rfl

theorem outs_rows : (outsAt0 m c t.val t.isLt).1 = k0_pay2 (F := Ideal) (iblk m c 0 t) (tile m c t) := by
  unfold tile
  by_cases h0 : t.val % 9 = 0
  · rw [if_pos h0, outsAt0_A m c t h0]
    frame_out
  · rw [if_neg h0, outsAt0_B m c t h0]
    frame_out
    simp only [read_unread_whole]

/-- The tile is the point's block of the weight at every point. -/
theorem tile_eq : ∀ (n : ℕ) (h : n < cfg0.N) (x : Fin 512) (k : Fin 4096),
    tile m c ⟨n, h⟩ (ix2 x k) = argW m c (ix3 0 k ⟨n / 9 * 512 + x.val, by have := lt_N ⟨n, h⟩; simp only at this; omega⟩)
  | 0, h, x, k => by
    unfold tile
    rw [if_pos (by simp), pay1_apply, blk_w]
  | n + 1, h, x, k => by
    unfold tile
    by_cases h0 : (n + 1) % 9 = 0
    · rw [if_pos h0, pay1_apply, blk_w]
    · rw [if_neg h0]
      have hn : n < cfg0.N := by omega
      have e : (outsAt0 m c ((⟨n + 1, h⟩ : Fin cfg0.N).val - 1) (Nat.lt_of_le_of_lt (Nat.sub_le _ _) h)).2 = tile m c ⟨n, hn⟩ := outs_tile m c ⟨n, hn⟩
      rw [e, tile_eq n hn]
      congr 2
      refine Fin.ext ?_
      show n / 9 * 512 + x.val = (n + 1) / 9 * 512 + x.val
      omega

/-- A point's block of the result. -/
theorem out_block (r : Fin 1024) (x : Fin 512) :
    ((outsAt0 m c t.val t.isLt).1 : FVec Ideal S1024x512 .bf16) (ix2 r x)
      = proj (argH m c) (argW m c) ⟨t.val % 9 * 1024 + r.val, by omega⟩ ⟨t.val / 9 * 512 + x.val, by have := lt_N t; omega⟩ := by
  rw [outs_rows, pay2_apply]
  refine Finset.sum_congr rfl fun k _ => ?_
  rw [blk_h, tile_eq m c t.val t.isLt]

/-- The result, of the arguments. -/
def arr : FVec Ideal S9216x12288 .bf16 := fun i => proj (argH m c) (argW m c) (i 0) (i 1)

theorem array : (dats m 0 c).arrAt 2 cfg0.N = arr m c := by
  refine (dats m 0 c).arrAt_eq_of_covers 2 _ (by decide +kernel) fun t hf y => ?_
  blk_simp
  rw [after0_2]
  obtain ⟨r, x, rfl⟩ : ∃ (r : Fin 1024) (x : Fin 512), y = ix2 r x := ⟨y 0, y 1, funext fun k => by fin_cases k <;> rfl⟩
  have e : (win0_2.blk t).view.emb (ix2 r x)
      = ix2 (⟨t.val % 9 * 1024 + r.val, by omega⟩ : Fin 9216) (⟨t.val / 9 * 512 + x.val, by have := lt_N t; omega⟩ : Fin 12288) := by
    have i0 : win0_2.index t 0 = t.val % 9 := congrFun (idx2 t) 0
    have i1 : win0_2.index t 1 = t.val / 9 := congrFun (idx2 t) 1
    blk_ext!
    all_goals simp only [i0, i1]
    all_goals omega
  refine (out_block m c t r x).trans ?_
  rw [e]
  rfl

end kernel

/-! ## The reference -/

open Cert.Reference2Ideal Cert.Reference2Ideal.Gen in
theorem ref_apply (h : FVec Ideal S9216x4096 .bf16) (w : FVec Ideal S1x4096x12304 .f32) (r : Fin 9216) (j : Fin 12288) :
    (truncf .bf16 (Host.dotGeneral (F := Ideal) dot_S9216x4096_S4096x12288_S9216x12288_1_0_0_1_n_n none (extf .f32 h bitsLt_bf16_f32)
      (shapeCast S4096x12288 (extractStridedSlice S1x4096x12288 ![0, 0, 0] w slices_S1x4096x12304_S1x4096x12288_0_0_0)
        shapeCasts_S1x4096x12288_S4096x12288)) bitsLt_bf16_f32 : FVec Ideal S9216x12288 .bf16) (ix2 r j) = proj h w r j := by
  pointwise
  rfl

end Cert.Proj
-- ==== Proof.Glu.lean ====
/-
  The convolution module's first pointwise product with its gate: what the kernel's blocks and its two kept weight tiles hold,
  the array it leaves, and that the reference computes the same.
-/
module

public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Pipeline.Value
public import Idealize.ShloMosaic.Lib.StableHlo.ReadAt
public import proofs.«01_k».proof.Proof.Gen.Kernel3Ideal.Value
public import proofs.«01_k».proof.Proof.Gen.Reference3Ideal.Run

@[expose] public section

set_option maxRecDepth 16384

noncomputable section

namespace Cert.Glu

open Idealize.ShloMosaic Idealize.ShloMosaic.TcCoe Idealize.SL.Sem

/-- Row `r` of the hidden states against column `j` of the weight, with the bias. -/
def lin (h : FVec Ideal ⟨2, ![9216, 4096]⟩ .bf16) (w : FVec Ideal ⟨3, ![1, 4096, 8192]⟩ .f32) (b : FVec Ideal ⟨2, ![1, 8192]⟩ .f32)
    (r : Fin 9216) (j : Fin 8192) : EReal :=
  (∑ k : Fin 4096, h (ix2 r k) * w (ix3 0 k j)) + b (ix2 0 j)
/-- A value times the logistic of its gate. -/
def gated (a g : EReal) : EReal := a * Ideal.div 1 (1 + Ideal.exp (-g))
/-- The gated unit's element: the first half's column times the logistic of the second half's. -/
def unit (h : FVec Ideal ⟨2, ![9216, 4096]⟩ .bf16) (w : FVec Ideal ⟨3, ![1, 4096, 8192]⟩ .f32) (b : FVec Ideal ⟨2, ![1, 8192]⟩ .f32)
    (r : Fin 9216) (j : Fin 4096) : EReal :=
  gated (lin h w b r ⟨j.val, by omega⟩) (lin h w b r ⟨4096 + j.val, by omega⟩)

/-! ## The kernel -/

section kernel

open Cert.Kernel3Ideal Cert.Kernel3Ideal.Gen

variable (m : (ℓ : Loc nD τ sig) → Buf (Elt Ideal) ℓ) (c : Dev nD) (t : Fin cfg0.N)

abbrev argH : FVec Ideal S9216x4096 .bf16 := m ((c : Thread nD τ).loc main_arg0)
abbrev argW : FVec Ideal S1x4096x8192 .f32 := m ((c : Thread nD τ).loc main_arg1)
abbrev argB : FVec Ideal S1x8192 .f32 := m ((c : Thread nD τ).loc main_arg2)

theorem lt_N : t.val < 144 := lt_of_lt_of_eq t.isLt N_0

theorem host_b (y : Fin 8192) : (V m c main_v0 : FVec Ideal S1x1x8192 .f32) (ix3 0 0 y) = argB m c (ix2 0 y) := by
  unfold V
  after_reads_at

/-- Column `x` of a point's tile, in the first half of the weight's columns. -/
def col (n : ℕ) (hn : n < 144) (x : Fin 256) : Fin 4096 := ⟨n / 9 * 256 + x.val, by omega⟩

theorem idx0 : ∀ t : Fin cfg0.N, win0_0.index t = ![t.val % 9, 0] := by decide +kernel
theorem idx1 : ∀ t : Fin cfg0.N, win0_1.index t = ![0, 0, t.val / 9] := by decide +kernel
theorem idx2 : ∀ t : Fin cfg0.N, win0_2.index t = ![0, 0, t.val / 9 + 16] := by decide +kernel
theorem idx3 : ∀ t : Fin cfg0.N, win0_3.index t = ![0, 0, t.val / 9] := by decide +kernel
theorem idx4 : ∀ t : Fin cfg0.N, win0_4.index t = ![0, 0, t.val / 9 + 16] := by decide +kernel
theorem idx5 : ∀ t : Fin cfg0.N, win0_5.index t = ![t.val % 9, t.val / 9] := by decide +kernel

theorem blk_h (r : Fin 1024) (k : Fin 4096) :
    (iblk m c 0 t : FVec Ideal S1024x4096 .bf16) (ix2 r k) = argH m c (ix2 ⟨t.val % 9 * 1024 + r.val, by omega⟩ k) := by
  blk_simp [iblk]
  entry_read
  blk_ext!
  all_goals simp [idx0]
theorem blk_w (k : Fin 4096) (x : Fin 256) :
    (iblk m c 1 t : FVec Ideal S1x4096x256 .f32) (ix3 0 k x) = argW m c (ix3 0 k ⟨(col t.val (lt_N t) x).val, by omega⟩) := by
  blk_simp [iblk]
  entry_read
  blk_ext!
  all_goals simp [idx1, col]
theorem blk_w2 (k : Fin 4096) (x : Fin 256) :
    (iblk m c 2 t : FVec Ideal S1x4096x256 .f32) (ix3 0 k x) = argW m c (ix3 0 k ⟨4096 + (col t.val (lt_N t) x).val, by omega⟩) := by
  blk_simp [iblk]
  entry_read
  blk_ext!
  all_goals simp [idx2, col]
  all_goals omega
theorem blk_b (x : Fin 256) :
    (iblk m c 3 t : FVec Ideal S1x1x256 .f32) (ix3 0 0 x) = argB m c (ix2 0 ⟨(col t.val (lt_N t) x).val, by omega⟩) := by
  refine Eq.trans ?_ (host_b m c ⟨(col t.val (lt_N t) x).val, by omega⟩)
  blk_simp [iblk]
  blk_ext!
  all_goals simp [idx3, col]
theorem blk_b2 (x : Fin 256) :
    (iblk m c 4 t : FVec Ideal S1x1x256 .f32) (ix3 0 0 x) = argB m c (ix2 0 ⟨4096 + (col t.val (lt_N t) x).val, by omega⟩) := by
  refine Eq.trans ?_ (host_b m c ⟨4096 + (col t.val (lt_N t) x).val, by omega⟩)
  blk_simp [iblk]
  blk_ext!
  all_goals simp [idx4, col]
  all_goals omega

theorem pay1_apply (w : FVec Ideal S1x4096x256 .f32) (k : Fin 4096) (x : Fin 256) :
    (k0_pay1 (F := Ideal) w) (ix2 k x) = w (ix3 0 k x) := by
  pointwise [k0_pay1]
theorem pay2_apply (w : FVec Ideal S1x4096x256 .f32) (k : Fin 4096) (x : Fin 256) :
    (k0_pay2 (F := Ideal) w) (ix2 k x) = w (ix3 0 k x) := by
  pointwise [k0_pay2]
theorem pay3_apply (h : FVec Ideal S1024x4096 .bf16) (w w2 : FVec Ideal S4096x256 .bf16) (b b2 : FVec Ideal S1x1x256 .f32) (r : Fin 1024) (x : Fin 256) :
    (k0_pay3 (F := Ideal) h w b w2 b2) (ix2 r x)
      = gated ((∑ k : Fin 4096, h (ix2 r k) * w (ix2 k x)) + b (ix3 0 0 x)) ((∑ k : Fin 4096, h (ix2 r k) * w2 (ix2 k x)) + b2 (ix3 0 0 x)) := by
  pointwise [k0_pay3]
  rw [zero_sub]
  rfl

/-- The two weight tiles a point leaves in the scratches: its own blocks at the first point of a column of the grid, what the
    point before left at the others. -/
def tiles : FVec Ideal S4096x256 .bf16 × FVec Ideal S4096x256 .bf16 :=
  if t.val % 9 = 0 then (k0_pay1 (F := Ideal) (iblk m c 1 t), k0_pay2 (F := Ideal) (iblk m c 2 t))
  else (outsAt0 m c (t.val - 1) (Nat.lt_of_le_of_lt (Nat.sub_le _ _) t.isLt)).2

theorem outs_tiles : (outsAt0 m c t.val t.isLt).2 = tiles m c t := by
  unfold tiles
  by_cases h0 : t.val % 9 = 0
  · rw [if_pos h0, outsAt0_A m c t h0]
    refine Prod.ext ?_ ?_
    · frame_out
    · frame_out
  · rw [if_neg h0, outsAt0_B m c t h0]
    rfl

theorem outs_rows : (outsAt0 m c t.val t.isLt).1
    = k0_pay3 (F := Ideal) (iblk m c 0 t) (tiles m c t).1 (iblk m c 3 t) (tiles m c t).2 (iblk m c 4 t) := by
  unfold tiles
  by_cases h0 : t.val % 9 = 0
  · rw [if_pos h0, outsAt0_A m c t h0]
    frame_out
  · rw [if_neg h0, outsAt0_B m c t h0]
    frame_out
    simp only [read_unread_whole]

theorem own_tiles (k : Fin 4096) (x : Fin 256) :
    k0_pay1 (F := Ideal) (iblk m c 1 t) (ix2 k x) = argW m c (ix3 0 k ⟨(col t.val (lt_N t) x).val, by omega⟩)
      ∧ k0_pay2 (F := Ideal) (iblk m c 2 t) (ix2 k x) = argW m c (ix3 0 k ⟨4096 + (col t.val (lt_N t) x).val, by omega⟩) := by
  constructor
  · rw [pay1_apply, blk_w]
  · rw [pay2_apply, blk_w2]

/-- The tiles are the point's blocks of the weight at every point. -/
theorem tiles_eq : ∀ (n : ℕ) (h : n < cfg0.N) (k : Fin 4096) (x : Fin 256),
    (tiles m c ⟨n, h⟩).1 (ix2 k x) = argW m c (ix3 0 k ⟨(col n (lt_N ⟨n, h⟩) x).val, by omega⟩)
      ∧ (tiles m c ⟨n, h⟩).2 (ix2 k x) = argW m c (ix3 0 k ⟨4096 + (col n (lt_N ⟨n, h⟩) x).val, by omega⟩)
  | 0, h, k, x => by
    unfold tiles
    rw [if_pos (by simp)]
    dsimp only
    exact own_tiles m c ⟨0, h⟩ k x
  | n + 1, h, k, x => by
    unfold tiles
    by_cases h0 : (n + 1) % 9 = 0
    · rw [if_pos h0]
      dsimp only
      exact own_tiles m c ⟨n + 1, h⟩ k x
    · rw [if_neg h0]
      have hn : n < cfg0.N := by omega
      have e : (outsAt0 m c ((⟨n + 1, h⟩ : Fin cfg0.N).val - 1) (Nat.lt_of_le_of_lt (Nat.sub_le _ _) h)).2 = tiles m c ⟨n, hn⟩ := outs_tiles m c ⟨n, hn⟩
      have ec : col (n + 1) (lt_N ⟨n + 1, h⟩) x = col n (lt_N ⟨n, hn⟩) x := Fin.ext (by simp only [col]; omega)
      rw [e]
      simp only [ec]
      exact tiles_eq n hn k x

/-- A point's block of the result. -/
theorem out_block (r : Fin 1024) (x : Fin 256) :
    ((outsAt0 m c t.val t.isLt).1 : FVec Ideal S1024x256 .f32) (ix2 r x)
      = unit (argH m c) (argW m c) (argB m c) ⟨t.val % 9 * 1024 + r.val, by omega⟩ (col t.val (lt_N t) x) := by
  rw [outs_rows, pay3_apply, blk_b, blk_b2]
  simp only [blk_h, (tiles_eq m c t.val t.isLt _ _).1, (tiles_eq m c t.val t.isLt _ _).2]
  rfl

/-- The result, of the arguments. -/
def arr : FVec Ideal S9216x4096 .f32 := fun i => unit (argH m c) (argW m c) (argB m c) (i 0) (i 1)

theorem array : (dats m 0 c).arrAt 5 cfg0.N = arr m c := by
  refine (dats m 0 c).arrAt_eq_of_covers 5 _ (by decide +kernel) fun t hf y => ?_
  blk_simp
  rw [after0_5]
  obtain ⟨r, x, rfl⟩ : ∃ (r : Fin 1024) (x : Fin 256), y = ix2 r x := ⟨y 0, y 1, funext fun k => by fin_cases k <;> rfl⟩
  have e : (win0_5.blk t).view.emb (ix2 r x)
      = ix2 (⟨t.val % 9 * 1024 + r.val, by omega⟩ : Fin 9216) (col t.val (lt_N t) x) := by
    have i0 : win0_5.index t 0 = t.val % 9 := congrFun (idx5 t) 0
    have i1 : win0_5.index t 1 = t.val / 9 := congrFun (idx5 t) 1
    blk_ext!
    all_goals simp only [i0, i1, col]
    all_goals omega
  refine (out_block m c t r x).trans ?_
  rw [e]
  rfl

end kernel

/-! ## The reference -/

open Cert.Reference3Ideal Cert.Reference3Ideal.Gen in
/-- The reference's two halves before the gate. -/
abbrev refLin (h : FVec Ideal S9216x4096 .bf16) (w : FVec Ideal S1x4096x8192 .f32) (b : FVec Ideal S1x8192 .f32) : FVec Ideal S9216x8192 .f32 :=
  addf (Host.dotGeneral (F := Ideal) dot_S9216x4096_S4096x8192_S9216x8192_1_0_0_1_n_n none (extf .f32 h bitsLt_bf16_f32)
    (shapeCast _ w shapeCasts_S1x4096x8192_S4096x8192))
    (broadcastInDim S9216x8192 ![0, 1] bcast_S1x8192_S9216x8192_0_1 (broadcastInDim S1x8192 ![1] bcast_S8192_S1x8192_1 (shapeCast _ b shapeCasts_S1x8192_S8192)))

theorem refLin_apply (h : FVec Ideal ⟨2, ![9216, 4096]⟩ .bf16) (w : FVec Ideal ⟨3, ![1, 4096, 8192]⟩ .f32) (b : FVec Ideal ⟨2, ![1, 8192]⟩ .f32)
    (r : Fin 9216) (j : Fin 8192) : refLin h w b (ix2 r j) = lin h w b r j := by
  unfold refLin
  pointwise
  rfl

open Cert.Reference3Ideal Cert.Reference3Ideal.Gen in
theorem ref_apply (h : FVec Ideal S9216x4096 .bf16) (w : FVec Ideal S1x4096x8192 .f32) (b : FVec Ideal S1x8192 .f32) (r : Fin 9216) (j : Fin 4096) :
    (mulf (extractStridedSlice S9216x4096 ![0, 0] (refLin h w b) slices_S9216x8192_S9216x4096_0_0)
      (Host.divf (broadcastInDim S9216x4096 ![] bcast_S_S9216x4096 (constant S_ .f32 0x3F800000#32))
        (addf (broadcastInDim S9216x4096 ![] bcast_S_S9216x4096 (constant S_ .f32 0x3F800000#32))
          (Host.exp (Host.negf (extractStridedSlice S9216x4096 ![0, 4096] (refLin h w b) slices_S9216x8192_S9216x4096_0_4096))))) : FVec Ideal S9216x4096 .f32)
      (ix2 r j) = unit h w b r j := by
  have e1 := refLin_apply h w b r ⟨j.val, by omega⟩
  have e2 := refLin_apply h w b r ⟨4096 + j.val, by omega⟩
  unfold unit
  rw [← e1, ← e2]
  generalize refLin h w b = u
  pointwise
  rfl

end Cert.Glu
-- ==== Proof.GlaOut.lean ====
/-
  The output projection of the attention with its residual: what the kernel's blocks and its kept weight tile hold, the array it
  leaves, and that the reference computes the same.
-/
module

public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Pipeline.Value
public import Idealize.ShloMosaic.Lib.StableHlo.ReadAt
public import proofs.«01_k».proof.Proof.Gen.Kernel4Ideal.Value
public import proofs.«01_k».proof.Proof.Gen.Reference4Ideal.Run

@[expose] public section

set_option maxRecDepth 16384

noncomputable section

namespace Cert.GlaOut

open Idealize.ShloMosaic Idealize.ShloMosaic.TcCoe Idealize.SL.Sem

/-- Row `r` against column `j` of the weight. -/
def dot {n : ℕ} (a : FVec Ideal ⟨2, ![n, 4096]⟩ .bf16) (w : FVec Ideal ⟨3, ![1, 4096, 4096]⟩ .f32) (r : Fin n) (j : Fin 4096) : EReal :=
  ∑ k : Fin 4096, a (ix2 r k) * w (ix3 0 k j)
/-- The result's element: the residual plus the product, the first group's 8192 rows before the second's. -/
def rowsOut (p : FVec Ideal ⟨2, ![8192, 4096]⟩ .bf16) (s : FVec Ideal ⟨2, ![1024, 4096]⟩ .bf16) (w : FVec Ideal ⟨3, ![1, 4096, 4096]⟩ .f32)
    (xp : FVec Ideal ⟨2, ![8192, 4096]⟩ .f32) (xs : FVec Ideal ⟨2, ![1024, 4096]⟩ .f32) (r : Fin 9216) (j : Fin 4096) : EReal :=
  if h : r.val < 8192 then xp (ix2 ⟨r.val, h⟩ j) + dot p w ⟨r.val, h⟩ j
  else xs (ix2 ⟨r.val - 8192, by omega⟩ j) + dot s w ⟨r.val - 8192, by omega⟩ j

/-! ## The kernel -/

section kernel

open Cert.Kernel4Ideal Cert.Kernel4Ideal.Gen

variable (m : (ℓ : Loc nD τ sig) → Buf (Elt Ideal) ℓ) (c : Dev nD) (t : Fin cfg0.N)

abbrev argP : FVec Ideal S8192x4096 .bf16 := m ((c : Thread nD τ).loc main_arg0)
abbrev argS : FVec Ideal S1024x4096 .bf16 := m ((c : Thread nD τ).loc main_arg1)
abbrev argW : FVec Ideal S1x4096x4096 .f32 := m ((c : Thread nD τ).loc main_arg2)
abbrev argX : FVec Ideal S8192x4096 .f32 := m ((c : Thread nD τ).loc main_arg3)
abbrev argY : FVec Ideal S1024x4096 .f32 := m ((c : Thread nD τ).loc main_arg4)

theorem lt_N : t.val < 72 := lt_of_lt_of_eq t.isLt N_0

/-- Column `x` of a point's tile, in the weight. -/
def col (n : ℕ) (hn : n < 72) (x : Fin 1024) : Fin 4096 := ⟨n / 18 * 1024 + x.val, by omega⟩

theorem idx0 : ∀ t : Fin cfg0.N, win0_0.index t = ![0, 0, t.val / 18] := by decide +kernel
theorem idx1 : ∀ t : Fin cfg0.N, win0_1.index t = ![min (t.val % 18) 15, 0] := by decide +kernel
theorem idx2 : ∀ t : Fin cfg0.N, win0_2.index t = ![t.val % 18 - 16, 0] := by decide +kernel
theorem idx3 : ∀ t : Fin cfg0.N, win0_3.index t = ![min (t.val % 18) 15, t.val / 18] := by decide +kernel
theorem idx4 : ∀ t : Fin cfg0.N, win0_4.index t = ![t.val % 18 - 16, t.val / 18] := by decide +kernel
theorem idx5 : ∀ t : Fin cfg0.N, win0_5.index t = ![t.val % 18, t.val / 18] := by decide +kernel

theorem blk_w (k : Fin 4096) (x : Fin 1024) :
    (iblk m c 0 t : FVec Ideal S1x4096x1024 .f32) (ix3 0 k x) = argW m c (ix3 0 k (col t.val (lt_N t) x)) := by
  blk_simp [iblk]
  entry_read
  blk_ext!
  all_goals simp [idx0, col]
/-- A point's block of rows of the first group, at a point of the first group. -/
theorem blk_p (h1 : t.val % 18 ≤ 15) (r : Fin 512) (k : Fin 4096) :
    (iblk m c 1 t : FVec Ideal S512x4096 .bf16) (ix2 r k) = argP m c (ix2 ⟨t.val % 18 * 512 + r.val, by omega⟩ k) := by
  blk_simp [iblk]
  entry_read
  blk_ext!
  all_goals simp [idx1, h1]
/-- A point's block of rows of the second group. -/
theorem blk_s (r : Fin 512) (k : Fin 4096) :
    (iblk m c 2 t : FVec Ideal S512x4096 .bf16) (ix2 r k) = argS m c (ix2 ⟨(t.val % 18 - 16) * 512 + r.val, by omega⟩ k) := by
  blk_simp [iblk]
  entry_read
  blk_ext!
  all_goals simp [idx2]
theorem blk_x (h1 : t.val % 18 ≤ 15) (r : Fin 512) (x : Fin 1024) :
    (iblk m c 3 t : FVec Ideal S512x1024 .f32) (ix2 r x) = argX m c (ix2 ⟨t.val % 18 * 512 + r.val, by omega⟩ (col t.val (lt_N t) x)) := by
  blk_simp [iblk]
  entry_read
  blk_ext!
  all_goals simp [idx3, h1, col]
theorem blk_y (r : Fin 512) (x : Fin 1024) :
    (iblk m c 4 t : FVec Ideal S512x1024 .f32) (ix2 r x) = argY m c (ix2 ⟨(t.val % 18 - 16) * 512 + r.val, by omega⟩ (col t.val (lt_N t) x)) := by
  blk_simp [iblk]
  entry_read
  blk_ext!
  all_goals simp [idx4, col]

theorem pay1_apply (w : FVec Ideal S1x4096x1024 .f32) (k : Fin 4096) (x : Fin 1024) :
    (k0_pay1 (F := Ideal) w) (ix2 k x) = w (ix3 0 k x) := by
  pointwise [k0_pay1]
theorem pay2_apply (a : FVec Ideal S512x4096 .bf16) (w : FVec Ideal S4096x1024 .bf16) (x : FVec Ideal S512x1024 .f32) (r : Fin 512) (j : Fin 1024) :
    (k0_pay2 (F := Ideal) a w x) (ix2 r j) = (∑ k : Fin 4096, a (ix2 r k) * w (ix2 k j)) + x (ix2 r j) := by
  pointwise [k0_pay2]
theorem pay3_apply (a : FVec Ideal S512x4096 .bf16) (w : FVec Ideal S4096x1024 .bf16) (x : FVec Ideal S512x1024 .f32) (r : Fin 512) (j : Fin 1024) :
    (k0_pay3 (F := Ideal) a w x) (ix2 r j) = (∑ k : Fin 4096, a (ix2 r k) * w (ix2 k j)) + x (ix2 r j) := by
  pointwise [k0_pay3]

/-- The weight tile a point leaves in the scratch: its own block at the first point of a column of the grid, what the point
    before left at the others. -/
def tile : FVec Ideal S4096x1024 .bf16 :=
  if t.val % 18 = 0 then k0_pay1 (F := Ideal) (iblk m c 0 t) else (outsAt0 m c (t.val - 1) (Nat.lt_of_le_of_lt (Nat.sub_le _ _) t.isLt)).2

theorem outs_tile : (outsAt0 m c t.val t.isLt).2 = tile m c t := by
  unfold tile
  by_cases h0 : t.val % 18 = 0
  · rw [if_pos h0, outsAt0_A m c t h0 (by omega) (by omega)]
    frame_out
  · rw [if_neg h0]
    by_cases h1 : t.val % 18 ≤ 15
    · rw [outsAt0_B m c t h0 h1 (by omega)]
      rfl
    · rw [outsAt0_C m c t h0 h1 (by omega)]
      rfl

/-- The rows a point of the first group leaves. -/
theorem outs_p (h1 : t.val % 18 ≤ 15) : (outsAt0 m c t.val t.isLt).1
    = k0_pay2 (F := Ideal) (iblk m c 1 t) (tile m c t) (iblk m c 3 t) := by
  unfold tile
  by_cases h0 : t.val % 18 = 0
  · rw [if_pos h0, outsAt0_A m c t h0 (by omega) (by omega)]
    frame_out
  · rw [if_neg h0, outsAt0_B m c t h0 h1 (by omega)]
    frame_out
    simp only [read_unread_whole]
/-- The rows a point of the second group leaves. -/
theorem outs_s (h1 : ¬t.val % 18 ≤ 15) : (outsAt0 m c t.val t.isLt).1
    = k0_pay3 (F := Ideal) (iblk m c 2 t) (tile m c t) (iblk m c 4 t) := by
  unfold tile
  rw [if_neg (by omega), outsAt0_C m c t (by omega) h1 (by omega)]
  frame_out
  simp only [read_unread_whole]

/-- The tile is the point's block of the weight at every point. -/
theorem tile_eq : ∀ (n : ℕ) (h : n < cfg0.N) (k : Fin 4096) (x : Fin 1024),
    tile m c ⟨n, h⟩ (ix2 k x) = argW m c (ix3 0 k (col n (lt_N ⟨n, h⟩) x))
  | 0, h, k, x => by
    unfold tile
    rw [if_pos (by simp), pay1_apply, blk_w]
  | n + 1, h, k, x => by
    unfold tile
    by_cases h0 : (n + 1) % 18 = 0
    · rw [if_pos h0, pay1_apply, blk_w]
    · rw [if_neg h0]
      have hn : n < cfg0.N := by omega
      have e : (outsAt0 m c ((⟨n + 1, h⟩ : Fin cfg0.N).val - 1) (Nat.lt_of_le_of_lt (Nat.sub_le _ _) h)).2 = tile m c ⟨n, hn⟩ := outs_tile m c ⟨n, hn⟩
      have ec : col (n + 1) (lt_N ⟨n + 1, h⟩) x = col n (lt_N ⟨n, hn⟩) x := Fin.ext (by simp only [col]; omega)
      rw [e, ec]
      exact tile_eq n hn k x

/-- A point's block of the result. -/
theorem out_block (r : Fin 512) (x : Fin 1024) :
    ((outsAt0 m c t.val t.isLt).1 : FVec Ideal S512x1024 .f32) (ix2 r x)
      = rowsOut (argP m c) (argS m c) (argW m c) (argX m c) (argY m c) ⟨t.val % 18 * 512 + r.val, by omega⟩ (col t.val (lt_N t) x) := by
  unfold rowsOut
  by_cases h1 : t.val % 18 ≤ 15
  · rw [dif_pos (show t.val % 18 * 512 + r.val < 8192 by omega), outs_p m c t h1, pay2_apply, blk_x m c t h1]
    simp only [blk_p m c t h1, tile_eq m c t.val t.isLt]
    exact add_comm _ _
  · rw [dif_neg (show ¬t.val % 18 * 512 + r.val < 8192 by omega), outs_s m c t h1, pay3_apply, blk_y]
    simp only [blk_s, tile_eq m c t.val t.isLt]
    have e : (t.val % 18 - 16) * 512 + r.val = t.val % 18 * 512 + r.val - 8192 := by omega
    simp only [e]
    exact add_comm _ _

/-- The result, of the arguments. -/
def arr : FVec Ideal S9216x4096 .f32 := fun i => rowsOut (argP m c) (argS m c) (argW m c) (argX m c) (argY m c) (i 0) (i 1)

theorem array : (dats m 0 c).arrAt 5 cfg0.N = arr m c := by
  refine (dats m 0 c).arrAt_eq_of_covers 5 _ (by decide +kernel) fun t hf y => ?_
  blk_simp
  rw [after0_5]
  obtain ⟨r, x, rfl⟩ : ∃ (r : Fin 512) (x : Fin 1024), y = ix2 r x := ⟨y 0, y 1, funext fun k => by fin_cases k <;> rfl⟩
  have e : (win0_5.blk t).view.emb (ix2 r x)
      = ix2 (⟨t.val % 18 * 512 + r.val, by omega⟩ : Fin 9216) (col t.val (lt_N t) x) := by
    have i0 : win0_5.index t 0 = t.val % 18 := congrFun (idx5 t) 0
    have i1 : win0_5.index t 1 = t.val / 18 := congrFun (idx5 t) 1
    blk_ext!
    all_goals simp only [i0, i1, col]
    all_goals omega
  refine (out_block m c t r x).trans ?_
  rw [e]
  rfl

end kernel

/-! ## The reference -/

open Cert.Reference4Ideal Cert.Reference4Ideal.Gen in
theorem ref_apply (p : FVec Ideal S8192x4096 .bf16) (s : FVec Ideal S1024x4096 .bf16) (w : FVec Ideal S1x4096x4096 .f32) (xp : FVec Ideal S8192x4096 .f32)
    (xs : FVec Ideal S1024x4096 .f32) (r : Fin 9216) (j : Fin 4096) :
    (concatenate S9216x4096 0 [⟨S8192x4096, (addf xp (Host.dotGeneral (F := Ideal) dot_S8192x4096_S4096x4096_S8192x4096_1_0_0_1_n_n none
        (extf .f32 p bitsLt_bf16_f32) (shapeCast _ w shapeCasts_S1x4096x4096_S4096x4096)))⟩,
      ⟨S1024x4096, (addf xs (Host.dotGeneral (F := Ideal) dot_S1024x4096_S4096x4096_S1024x4096_1_0_0_1_n_n none
        (extf .f32 s bitsLt_bf16_f32) (shapeCast _ w shapeCasts_S1x4096x4096_S4096x4096)))⟩] concatenates_S8192x4096_S1024x4096_S9216x4096_d0
      : FVec Ideal S9216x4096 .f32) (ix2 r j) = rowsOut p s w xp xs r j := by
  pointwise
  rfl

end Cert.GlaOut
-- ==== Proof.ConvOut.lean ====
/-
  The convolution module's second pointwise product with its bias and residual: what the kernel's blocks and its kept weight
  tile hold, the array it leaves, and that the reference computes the same.
-/
module

public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Pipeline.Value
public import Idealize.ShloMosaic.Lib.StableHlo.ReadAt
public import proofs.«01_k».proof.Proof.Gen.Kernel5Ideal.Value
public import proofs.«01_k».proof.Proof.Gen.Reference5Ideal.Run

@[expose] public section

set_option maxRecDepth 16384

noncomputable section

namespace Cert.ConvOut

open Idealize.ShloMosaic Idealize.ShloMosaic.TcCoe Idealize.SL.Sem

/-- Row `r` against column `j` of the weight, with the bias. -/
def lin {n : ℕ} (a : FVec Ideal ⟨2, ![n, 4096]⟩ .bf16) (w : FVec Ideal ⟨3, ![1, 4096, 4096]⟩ .f32) (b : FVec Ideal ⟨2, ![1, 4096]⟩ .f32) (r : Fin n) (j : Fin 4096) : EReal :=
  (∑ k : Fin 4096, a (ix2 r k) * w (ix3 0 k j)) + b (ix2 0 j)
/-- The result's element: the residual plus the product, the first group's 8192 rows before the second's. -/
def rowsOut (p : FVec Ideal ⟨2, ![8192, 4096]⟩ .bf16) (s : FVec Ideal ⟨2, ![1024, 4096]⟩ .bf16) (w : FVec Ideal ⟨3, ![1, 4096, 4096]⟩ .f32)
    (b : FVec Ideal ⟨2, ![1, 4096]⟩ .f32) (x : FVec Ideal ⟨2, ![9216, 4096]⟩ .f32) (r : Fin 9216) (j : Fin 4096) : EReal :=
  if h : r.val < 8192 then x (ix2 r j) + lin p w b ⟨r.val, h⟩ j
  else x (ix2 r j) + lin s w b ⟨r.val - 8192, by omega⟩ j

/-! ## The kernel -/

section kernel

open Cert.Kernel5Ideal Cert.Kernel5Ideal.Gen

variable (m : (ℓ : Loc nD τ sig) → Buf (Elt Ideal) ℓ) (c : Dev nD) (t : Fin cfg0.N)

abbrev argP : FVec Ideal S8192x4096 .bf16 := m ((c : Thread nD τ).loc main_arg0)
abbrev argS : FVec Ideal S1024x4096 .bf16 := m ((c : Thread nD τ).loc main_arg1)
abbrev argW : FVec Ideal S1x4096x4096 .f32 := m ((c : Thread nD τ).loc main_arg2)
abbrev argB : FVec Ideal S1x4096 .f32 := m ((c : Thread nD τ).loc main_arg3)
abbrev argX : FVec Ideal S9216x4096 .f32 := m ((c : Thread nD τ).loc main_arg4)

theorem lt_N : t.val < 72 := lt_of_lt_of_eq t.isLt N_0

theorem host_b (y : Fin 4096) : (V m c main_v0 : FVec Ideal S1x1x4096 .f32) (ix3 0 0 y) = argB m c (ix2 0 y) := by
  unfold V
  after_reads_at

/-- Column `x` of a point's tile, in the weight. -/
def col (n : ℕ) (hn : n < 72) (x : Fin 1024) : Fin 4096 := ⟨n / 18 * 1024 + x.val, by omega⟩

theorem idx0 : ∀ t : Fin cfg0.N, win0_0.index t = ![0, 0, t.val / 18] := by decide +kernel
theorem idx1 : ∀ t : Fin cfg0.N, win0_1.index t = ![min (t.val % 18) 15, 0] := by decide +kernel
theorem idx2 : ∀ t : Fin cfg0.N, win0_2.index t = ![t.val % 18 - 16, 0] := by decide +kernel
theorem idx3 : ∀ t : Fin cfg0.N, win0_3.index t = ![0, 0, t.val / 18] := by decide +kernel
theorem idx4 : ∀ t : Fin cfg0.N, win0_4.index t = ![t.val % 18, t.val / 18] := by decide +kernel
theorem idx5 : ∀ t : Fin cfg0.N, win0_5.index t = ![t.val % 18, t.val / 18] := by decide +kernel

theorem blk_w (k : Fin 4096) (x : Fin 1024) :
    (iblk m c 0 t : FVec Ideal S1x4096x1024 .f32) (ix3 0 k x) = argW m c (ix3 0 k (col t.val (lt_N t) x)) := by
  blk_simp [iblk]
  entry_read
  blk_ext!
  all_goals simp [idx0, col]
/-- A point's block of rows of the first group, at a point of the first group. -/
theorem blk_p (h1 : t.val % 18 ≤ 15) (r : Fin 512) (k : Fin 4096) :
    (iblk m c 1 t : FVec Ideal S512x4096 .bf16) (ix2 r k) = argP m c (ix2 ⟨t.val % 18 * 512 + r.val, by omega⟩ k) := by
  blk_simp [iblk]
  entry_read
  blk_ext!
  all_goals simp [idx1, h1]
/-- A point's block of rows of the second group. -/
theorem blk_s (r : Fin 512) (k : Fin 4096) :
    (iblk m c 2 t : FVec Ideal S512x4096 .bf16) (ix2 r k) = argS m c (ix2 ⟨(t.val % 18 - 16) * 512 + r.val, by omega⟩ k) := by
  blk_simp [iblk]
  entry_read
  blk_ext!
  all_goals simp [idx2]
theorem blk_b (x : Fin 1024) :
    (iblk m c 3 t : FVec Ideal S1x1x1024 .f32) (ix3 0 0 x) = argB m c (ix2 0 (col t.val (lt_N t) x)) := by
  refine Eq.trans ?_ (host_b m c (col t.val (lt_N t) x))
  blk_simp [iblk]
  blk_ext!
  all_goals simp [idx3, col]
theorem blk_x (r : Fin 512) (x : Fin 1024) :
    (iblk m c 4 t : FVec Ideal S512x1024 .f32) (ix2 r x) = argX m c (ix2 ⟨t.val % 18 * 512 + r.val, by omega⟩ (col t.val (lt_N t) x)) := by
  blk_simp [iblk]
  entry_read
  blk_ext!
  all_goals simp [idx4, col]

theorem pay1_apply (w : FVec Ideal S1x4096x1024 .f32) (k : Fin 4096) (x : Fin 1024) :
    (k0_pay1 (F := Ideal) w) (ix2 k x) = w (ix3 0 k x) := by
  pointwise [k0_pay1]
theorem pay2_apply (a : FVec Ideal S512x4096 .bf16) (w : FVec Ideal S4096x1024 .bf16) (b : FVec Ideal S1x1x1024 .f32) (x : FVec Ideal S512x1024 .f32) (r : Fin 512) (j : Fin 1024) :
    (k0_pay2 (F := Ideal) a w b x) (ix2 r j) = (∑ k : Fin 4096, a (ix2 r k) * w (ix2 k j)) + b (ix3 0 0 j) + x (ix2 r j) := by
  pointwise [k0_pay2]
theorem pay3_apply (a : FVec Ideal S512x4096 .bf16) (w : FVec Ideal S4096x1024 .bf16) (b : FVec Ideal S1x1x1024 .f32) (x : FVec Ideal S512x1024 .f32) (r : Fin 512) (j : Fin 1024) :
    (k0_pay3 (F := Ideal) a w b x) (ix2 r j) = (∑ k : Fin 4096, a (ix2 r k) * w (ix2 k j)) + b (ix3 0 0 j) + x (ix2 r j) := by
  pointwise [k0_pay3]

/-- The weight tile a point leaves in the scratch: its own block at the first point of a column of the grid, what the point
    before left at the others. -/
def tile : FVec Ideal S4096x1024 .bf16 :=
  if t.val % 18 = 0 then k0_pay1 (F := Ideal) (iblk m c 0 t) else (outsAt0 m c (t.val - 1) (Nat.lt_of_le_of_lt (Nat.sub_le _ _) t.isLt)).2

theorem outs_tile : (outsAt0 m c t.val t.isLt).2 = tile m c t := by
  unfold tile
  by_cases h0 : t.val % 18 = 0
  · rw [if_pos h0, outsAt0_A m c t h0 (by omega) (by omega)]
    frame_out
  · rw [if_neg h0]
    by_cases h1 : t.val % 18 ≤ 15
    · rw [outsAt0_B m c t h0 h1 (by omega)]
      rfl
    · rw [outsAt0_C m c t h0 h1 (by omega)]
      rfl

/-- The rows a point of the first group leaves. -/
theorem outs_p (h1 : t.val % 18 ≤ 15) : (outsAt0 m c t.val t.isLt).1
    = k0_pay2 (F := Ideal) (iblk m c 1 t) (tile m c t) (iblk m c 3 t) (iblk m c 4 t) := by
  unfold tile
  by_cases h0 : t.val % 18 = 0
  · rw [if_pos h0, outsAt0_A m c t h0 (by omega) (by omega)]
    frame_out
  · rw [if_neg h0, outsAt0_B m c t h0 h1 (by omega)]
    frame_out
    simp only [read_unread_whole]
/-- The rows a point of the second group leaves. -/
theorem outs_s (h1 : ¬t.val % 18 ≤ 15) : (outsAt0 m c t.val t.isLt).1
    = k0_pay3 (F := Ideal) (iblk m c 2 t) (tile m c t) (iblk m c 3 t) (iblk m c 4 t) := by
  unfold tile
  rw [if_neg (by omega), outsAt0_C m c t (by omega) h1 (by omega)]
  frame_out
  simp only [read_unread_whole]

/-- The tile is the point's block of the weight at every point. -/
theorem tile_eq : ∀ (n : ℕ) (h : n < cfg0.N) (k : Fin 4096) (x : Fin 1024),
    tile m c ⟨n, h⟩ (ix2 k x) = argW m c (ix3 0 k (col n (lt_N ⟨n, h⟩) x))
  | 0, h, k, x => by
    unfold tile
    rw [if_pos (by simp), pay1_apply, blk_w]
  | n + 1, h, k, x => by
    unfold tile
    by_cases h0 : (n + 1) % 18 = 0
    · rw [if_pos h0, pay1_apply, blk_w]
    · rw [if_neg h0]
      have hn : n < cfg0.N := by omega
      have e : (outsAt0 m c ((⟨n + 1, h⟩ : Fin cfg0.N).val - 1) (Nat.lt_of_le_of_lt (Nat.sub_le _ _) h)).2 = tile m c ⟨n, hn⟩ := outs_tile m c ⟨n, hn⟩
      have ec : col (n + 1) (lt_N ⟨n + 1, h⟩) x = col n (lt_N ⟨n, hn⟩) x := Fin.ext (by simp only [col]; omega)
      rw [e, ec]
      exact tile_eq n hn k x

/-- A point's block of the result. -/
theorem out_block (r : Fin 512) (x : Fin 1024) :
    ((outsAt0 m c t.val t.isLt).1 : FVec Ideal S512x1024 .f32) (ix2 r x)
      = rowsOut (argP m c) (argS m c) (argW m c) (argB m c) (argX m c) ⟨t.val % 18 * 512 + r.val, by omega⟩ (col t.val (lt_N t) x) := by
  unfold rowsOut
  by_cases h1 : t.val % 18 ≤ 15
  · rw [dif_pos (show t.val % 18 * 512 + r.val < 8192 by omega), outs_p m c t h1, pay2_apply, blk_x, blk_b]
    simp only [blk_p m c t h1, tile_eq m c t.val t.isLt]
    exact add_comm _ _
  · rw [dif_neg (show ¬t.val % 18 * 512 + r.val < 8192 by omega), outs_s m c t h1, pay3_apply, blk_x, blk_b]
    simp only [blk_s, tile_eq m c t.val t.isLt]
    have e : (t.val % 18 - 16) * 512 + r.val = t.val % 18 * 512 + r.val - 8192 := by omega
    simp only [e]
    exact add_comm _ _

/-- The result, of the arguments. -/
def arr : FVec Ideal S9216x4096 .f32 := fun i => rowsOut (argP m c) (argS m c) (argW m c) (argB m c) (argX m c) (i 0) (i 1)

theorem array : (dats m 0 c).arrAt 5 cfg0.N = arr m c := by
  refine (dats m 0 c).arrAt_eq_of_covers 5 _ (by decide +kernel) fun t hf y => ?_
  blk_simp
  rw [after0_5]
  obtain ⟨r, x, rfl⟩ : ∃ (r : Fin 512) (x : Fin 1024), y = ix2 r x := ⟨y 0, y 1, funext fun k => by fin_cases k <;> rfl⟩
  have e : (win0_5.blk t).view.emb (ix2 r x)
      = ix2 (⟨t.val % 18 * 512 + r.val, by omega⟩ : Fin 9216) (col t.val (lt_N t) x) := by
    have i0 : win0_5.index t 0 = t.val % 18 := congrFun (idx5 t) 0
    have i1 : win0_5.index t 1 = t.val / 18 := congrFun (idx5 t) 1
    blk_ext!
    all_goals simp only [i0, i1, col]
    all_goals omega
  refine (out_block m c t r x).trans ?_
  rw [e]
  rfl

end kernel

/-! ## The reference -/

open Cert.Reference5Ideal Cert.Reference5Ideal.Gen in
theorem ref_apply (p : FVec Ideal S8192x4096 .bf16) (s : FVec Ideal S1024x4096 .bf16) (w : FVec Ideal S1x4096x4096 .f32) (b : FVec Ideal S1x4096 .f32)
    (x : FVec Ideal S9216x4096 .f32) (r : Fin 9216) (j : Fin 4096) :
    (concatenate S9216x4096 0 [⟨S8192x4096, (addf (extractStridedSlice S8192x4096 ![0, 0] x slices_S9216x4096_S8192x4096_0_0)
        (addf (Host.dotGeneral (F := Ideal) dot_S8192x4096_S4096x4096_S8192x4096_1_0_0_1_n_n none (extf .f32 p bitsLt_bf16_f32) (shapeCast _ w shapeCasts_S1x4096x4096_S4096x4096))
          (broadcastInDim S8192x4096 ![0, 1] bcast_S1x4096_S8192x4096_0_1 (broadcastInDim S1x4096 ![1] bcast_S4096_S1x4096_1 (shapeCast _ b shapeCasts_S1x4096_S4096)))))⟩,
      ⟨S1024x4096, (addf (extractStridedSlice S1024x4096 ![8192, 0] x slices_S9216x4096_S1024x4096_8192_0)
        (addf (Host.dotGeneral (F := Ideal) dot_S1024x4096_S4096x4096_S1024x4096_1_0_0_1_n_n none (extf .f32 s bitsLt_bf16_f32) (shapeCast _ w shapeCasts_S1x4096x4096_S4096x4096))
          (broadcastInDim S1024x4096 ![0, 1] bcast_S1x4096_S1024x4096_0_1 (broadcastInDim S1x4096 ![1] bcast_S4096_S1x4096_1 (shapeCast _ b shapeCasts_S1x4096_S4096)))))⟩]
      concatenates_S8192x4096_S1024x4096_S9216x4096_d0 : FVec Ideal S9216x4096 .f32) (ix2 r j) = rowsOut p s w b x r j := by
  pointwise
  unfold rowsOut
  by_cases h : r.val < 8192
  · simp only [h, dite_true]
    rfl
  · have e : 8192 + (r.val - 8192) = r.val := by omega
    simp [h, e]
    rfl

end Cert.ConvOut
-- ==== Proof.ConvCache.lean ====
/-
  The cache of a depthwise convolution over 31 rows: the last thirty rows of a sequence, and of an older cache followed by
  eight rows. What the two reference programs compute of it.
-/
module

public import Idealize.ShloMosaic.Lib.Pointwise
public import Idealize.ShloMosaic.Lib.Pipeline.ValueKit
public import proofs.«01_k».proof.Proof.Gen.Reference7Ideal
public import proofs.«01_k».proof.Proof.Gen.Reference8Ideal

@[expose] public section

set_option maxRecDepth 16384

noncomputable section

namespace Cert.ConvCache

open Idealize.ShloMosaic

/-- Row `p` of the last thirty of sequence `b`, of four sequences of 2048 rows. -/
def lastRow (u : Fin 9216 → Fin 4096 → EReal) (b : Fin 4) (p : Fin 30) (l : Fin 4096) : EReal := u ⟨b.val * 2048 + (2018 + p.val), by omega⟩ l

/-- Row `p` of sequence `b`'s new cache: the old cache without its first eight rows, then the sequence's eight rows. -/
def newRow (u : Fin 9216 → Fin 4096 → EReal) (old : Fin 128 → Fin 30 → Fin 4096 → EReal) (b : Fin 128) (p : Fin 30) (l : Fin 4096) : EReal :=
  if h : p.val < 22 then old b ⟨8 + p.val, by omega⟩ l else u ⟨8192 + (b.val * 8 + (p.val - 22)), by omega⟩ l

end Cert.ConvCache

namespace Cert.Reference7Ideal

open Cert.Reference7Ideal.Gen Idealize.ShloMosaic

/-- The reference's cache of a prompt. -/
theorem cache_apply (u : FVec Ideal S9216x4096 .f32) (b : Fin 4) (p : Fin 30) (l : Fin 4096) :
    (extractStridedSlice S4x30x4096 ![0, 2048, 0] (concatenate S4x2078x4096 1 [⟨S4x30x4096, (broadcastInDim S4x30x4096 ![] bcast_S_S4x30x4096 (constant S_ .f32 0x00000000#32))⟩, ⟨S4x2048x4096, (shapeCast _ (extractStridedSlice S8192x4096 ![0, 0] u slices_S9216x4096_S8192x4096_0_0) shapeCasts_S8192x4096_S4x2048x4096)⟩] concatenates_S4x30x4096_S4x2048x4096_S4x2078x4096_d1) slices_S4x2078x4096_S4x30x4096_0_2048_0 : FVec Ideal S4x30x4096 .f32) (ix3 b p l)
      = ConvCache.lastRow (fun r l => u (ix2 r l)) b p l := by
  pointwise []
  rw [dif_neg (by omega)]
  unfold ConvCache.lastRow
  congr 2
  refine Fin.ext ?_
  show b.val * 2048 + (2048 + p.val - 30) = b.val * 2048 + (2018 + p.val)
  omega

end Cert.Reference7Ideal

namespace Cert.Reference8Ideal

open Cert.Reference8Ideal.Gen Idealize.ShloMosaic

/-- The reference's cache of a sampled sequence. -/
theorem cache_apply (u : FVec Ideal S9216x4096 .f32) (old : FVec Ideal S1x128x30x4096 .f32) (b : Fin 128) (p : Fin 30) (l : Fin 4096) :
    (extractStridedSlice S128x30x4096 ![0, 8, 0] (concatenate S128x38x4096 1 [⟨S128x30x4096, (shapeCast _ old shapeCasts_S1x128x30x4096_S128x30x4096)⟩, ⟨S128x8x4096, (shapeCast _ (extractStridedSlice S1024x4096 ![8192, 0] u slices_S9216x4096_S1024x4096_8192_0) shapeCasts_S1024x4096_S128x8x4096)⟩] concatenates_S128x30x4096_S128x8x4096_S128x38x4096_d1) slices_S128x38x4096_S128x30x4096_0_8_0 : FVec Ideal S128x30x4096 .f32) (ix3 b p l)
      = ConvCache.newRow (fun r l => u (ix2 r l)) (fun b p l => old (ix4 0 b p l)) b p l := by
  pointwise []
  unfold ConvCache.newRow
  by_cases h : p.val < 22
  · rw [dif_pos (by omega), dif_pos h]
  · rw [dif_neg (by omega), dif_neg h]
    congr 2
    refine Fin.ext ?_
    show 8192 + (b.val * 8 + (8 + p.val - 30)) = 8192 + (b.val * 8 + (p.val - 22))
    omega

end Cert.Reference8Ideal

end

end
-- ==== Proof.ConvTail.lean ====
/-
  What the prompt's depthwise convolution leaves as its cache: the last step of every sequence writes back the last thirty
  rows of its window, which are the last thirty of the block of rows just stored there.
-/
module
public import Idealize.ShloMosaic.Lib.Pointwise
public import Idealize.ShloMosaic.Lib.Pipeline.ValueKit
public import Idealize.ShloMosaic.Lib.StableHlo.ReadAt
public import Idealize.ShloMosaic.Lib.StableHlo.RunRead
public import Idealize.ShloMosaic.Lib.Pipeline.ReadBack
public import Idealize.ShloMosaic.Lib.Pipeline.Covers
public import Idealize.ShloMosaic.Lib.Pipeline.Value
public import proofs.«01_k».proof.Proof.ConvCache
public import proofs.«01_k».proof.Proof.Gen.Kernel7Ideal.Value

@[expose] public section

set_option maxRecDepth 16384

noncomputable section

namespace Cert.Kernel7Ideal.Cache

open Cert.Kernel7Ideal Cert.Kernel7Ideal.Gen Idealize.ShloMosaic Idealize.ShloMosaic.TcCoe Idealize.SL.Sem

variable (m : (ℓ : Loc nD τ sig) → Buf (Elt Ideal) ℓ) (c : Dev nD)

/-! The scratch read back: the last thirty rows are the last thirty of the block just stored. -/

section scratch

/-- The rows kept from before, the block's rows, and the last thirty. -/
abbrev boxKept : Rect S1x160x4096 := Rect.unit ![0, 0, 0] S1x32x4096.size inb_S1x160x4096_S1x32x4096_0_0_0
abbrev boxNew : Rect S1x160x4096 := Rect.unit ![0, 32, 0] S1x128x4096.size inb_S1x160x4096_S1x128x4096_0_32_0
abbrev boxLast : Rect S1x160x4096 := Rect.unit ![0, 130, 0] S1x30x4096.size inb_S1x160x4096_S1x30x4096_0_130_0

theorem emb_last (p : Fin 30) (l : Fin 4096) :
    boxLast.emb (ix3 0 p l : S1x30x4096.Idx) = boxNew.emb (ix3 0 ⟨98 + p.val, by omega⟩ l : S1x128x4096.Idx) := by
  funext k
  refine Fin.ext ?_
  fin_cases k
  · exact (show 0 + 1 * 0 = 0 + 1 * 0 by omega)
  · exact (show 130 + 1 * p.val = 32 + 1 * (98 + p.val) by omega)
  · exact (show 0 + 1 * l.val = 0 + 1 * l.val by omega)

/-- What stores leave in the scratch. -/
abbrev left (L : List (View.Piece (Elt Ideal) S1x160x4096 .f32)) : FVec Ideal S1x160x4096 .f32 := View.canon L

theorem left_emb (r : Rect S1x160x4096) (w : r.shape.Idx → Elt Ideal .f32) (L : List (View.Piece (Elt Ideal) S1x160x4096 .f32)) (y : r.shape.Idx) :
    left (⟨r, w⟩ :: L) (r.emb y) = w y := View.canon_cons_emb r w L y

theorem read_at {κ : Kind} {sp : Space} (v : View sig κ sp S1x160x4096 .f32) (L : List (View.Piece (Elt Ideal) S1x160x4096 .f32))
    (r : Rect S1x160x4096) (y : r.shape.Idx) :
    v.readCov (Val := Elt Ideal) L r.toLoadRect y = left L (r.emb y) := congrFun (View.readCov_eq_canon' v L r.toLoadRect) y

theorem read_last {κ : Kind} {sp : Space} (v : View sig κ sp S1x160x4096 .f32) (X : FVec Ideal S1x128x4096 .f32)
    (L : List (View.Piece (Elt Ideal) S1x160x4096 .f32)) (p : Fin 30) (l : Fin 4096) :
    (v.readCov (Val := Elt Ideal) (⟨boxNew, X⟩ :: L) boxLast.toLoadRect : FVec Ideal S1x30x4096 .f32) (ix3 0 p l)
      = X (ix3 0 ⟨98 + p.val, by omega⟩ l) := by
  refine (read_at v _ boxLast (ix3 0 p l : S1x30x4096.Idx)).trans ?_
  rw [emb_last]
  exact left_emb boxNew X L (ix3 0 ⟨98 + p.val, by omega⟩ l : S1x128x4096.Idx)

end scratch

/-- The last step of a sequence leaves the last thirty rows of its block. -/
theorem tail_of (t : Fin cfg0.N) (h2 : t.val % 16 = 15) (p : Fin 30) (l : Fin 4096) :
    ((outsAt0 m c t.val t.isLt).2.1 : FVec Ideal S1x30x4096 .f32) (ix3 0 p l)
      = (iblk m c 0 t : FVec Ideal S128x4096 .f32) (ix2 ⟨98 + p.val, by omega⟩ l) := by
  rw [outsAt0_C m c t (by omega) (by omega) h2]
  frame_out
  have e : ∀ x : FVec Ideal S1x30x4096 .f32, k0_pay432 (F := Ideal) x (ix3 0 p l) = x (ix3 0 p l) := fun x => by pointwise [k0_pay432]
  have e' : ∀ (x : FVec Ideal S128x4096 .f32) (q : Fin 128), k0_pay4 (F := Ideal) x (ix3 0 q l) = x (ix2 q l) := fun x q => by pointwise [k0_pay4]
  refine (e _).trans ?_
  refine (read_last _ _ _ p l).trans ?_
  exact e' _ _

/-- The gated unit's rows, as launched. -/
abbrev argU : FVec Ideal S9216x4096 .f32 := m ((c : Thread nD τ).loc main_arg0)

theorem lt_N (t : Fin cfg0.N) : t.val < 64 := lt_of_lt_of_eq t.isLt N_0
theorem idx0 : ∀ t : Fin cfg0.N, win0_0.index t = ![t.val, 0] := by decide +kernel
theorem idx6 : ∀ t : Fin cfg0.N, win0_6.index t = ![t.val / 16, 0, 0] := by decide +kernel

theorem blk_u (t : Fin cfg0.N) (r : Fin 128) (l : Fin 4096) :
    (iblk m c 0 t : FVec Ideal S128x4096 .f32) (ix2 r l) = argU m c (ix2 ⟨t.val * 128 + r.val, by have := lt_N t; omega⟩ l) := by
  blk_simp [iblk]
  entry_read
  blk_ext!
  all_goals simp [idx0]

/-- The last thirty rows of every sequence. -/
def caches (u : FVec Ideal S9216x4096 .f32) : FVec Ideal S4x30x4096 .f32 := fun i =>
  ConvCache.lastRow (fun r l => u (ix2 r l)) (i 0) (i 1) (i 2)

/-- The array of caches the kernel leaves. -/
theorem array6 : (dats m 0 c).arrAt 6 cfg0.N = caches (argU m c) := by
  refine (dats m 0 c).arrAt_eq_of_covers 6 _ (by decide +kernel) fun t hf y => ?_
  have h2 : t.val % 16 = 15 := (flush0_6 t).mp hf
  blk_simp
  rw [after0_6]
  obtain ⟨p, l, rfl⟩ : ∃ (p : Fin 30) (l : Fin 4096), y = ix3 0 p l :=
    ⟨y 1, y 2, funext fun k => by fin_cases k <;> first | rfl | exact Subsingleton.elim (α := Fin 1) _ _⟩
  have ht := lt_N t
  have e : (win0_6.blk t).view.emb (ix3 0 p l : S1x30x4096.Idx) = (ix3 ⟨t.val / 16, by omega⟩ p l : S4x30x4096.Idx) := by
    blk_ext!
    all_goals simp [idx6]
  refine (tail_of m c t h2 p l).trans ?_
  rw [e, blk_u]
  unfold caches ConvCache.lastRow
  congr 1
  refine congrArg₂ ix2 (Fin.ext ?_) rfl
  show t.val * 128 + (98 + p.val) = t.val / 16 * 2048 + (2018 + p.val)
  omega

end Cert.Kernel7Ideal.Cache

end

end
-- ==== Proof.ConvSampleTail.lean ====
/-
  What the samples' depthwise convolution leaves as its caches: every step writes back, for each of its two samples, rows
  10 to 39 of the sample's window, whose rows 2 to 31 are the old cache and whose rows 32 to 39 are the sample's new rows.
-/
module
public import Idealize.ShloMosaic.Lib.Pointwise
public import Idealize.ShloMosaic.Lib.Pipeline.ValueKit
public import Idealize.ShloMosaic.Lib.StableHlo.ReadAt
public import Idealize.ShloMosaic.Lib.StableHlo.RunRead
public import Idealize.ShloMosaic.Lib.Pipeline.ReadBack
public import Idealize.ShloMosaic.Lib.Pipeline.Covers
public import Idealize.ShloMosaic.Lib.Pipeline.Value
public import proofs.«01_k».proof.Proof.ConvCache
public import proofs.«01_k».proof.Proof.Gen.Kernel8Ideal.Value

@[expose] public section

set_option maxRecDepth 16384

noncomputable section

namespace Cert.Kernel8Ideal.Cache

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-! The scratch read back: rows 10 to 31 of a sample's window come from its old cache, rows 32 to 39 from its new rows. -/

section scratch

/-- Of sample `n`: the new rows, the old cache, the rows written back; and the written rows that lie in the old cache. -/
abbrev boxNew (n : ℕ) (h : ∀ a, (![n, 32, 0] : Fin 3 → ℕ) a + S1x8x4096.size a ≤ S2x40x4096.size a) : Rect S2x40x4096 :=
  Rect.unit (s := S2x40x4096) ![n, 32, 0] S1x8x4096.size h
abbrev boxOld (n : ℕ) (h : ∀ a, (![n, 2, 0] : Fin 3 → ℕ) a + S1x30x4096.size a ≤ S2x40x4096.size a) : Rect S2x40x4096 :=
  Rect.unit (s := S2x40x4096) ![n, 2, 0] S1x30x4096.size h
abbrev boxLast (n : ℕ) (h : ∀ a, (![n, 10, 0] : Fin 3 → ℕ) a + S1x30x4096.size a ≤ S2x40x4096.size a) : Rect S2x40x4096 :=
  Rect.unit (s := S2x40x4096) ![n, 10, 0] S1x30x4096.size h

/-- A row of a sample's window above the new rows is in none of them. -/
theorem not_new (n : ℕ) (h1) (h2) (q : Fin 30) (l : Fin 4096) (hq : q.val < 22) :
    (boxLast n h2).emb (ix3 0 q l : S1x30x4096.Idx) ∉ (boxNew n h1).set := by
  intro hm
  obtain ⟨i, _, he⟩ := (boxNew n h1).mem_set.mp hm (1 : Fin 3)
  have he' : 10 + 1 * q.val = 32 + 1 * i := he
  omega

theorem emb_old (n : ℕ) (h1) (h2) (q : Fin 30) (l : Fin 4096) (hq : q.val < 22) :
    (boxLast n h2).emb (ix3 0 q l : S1x30x4096.Idx) = (boxOld n h1).emb (ix3 0 ⟨8 + q.val, by omega⟩ l : S1x30x4096.Idx) := by
  funext k
  refine Fin.ext ?_
  fin_cases k
  · exact (show n + 1 * 0 = n + 1 * 0 by omega)
  · exact (show 10 + 1 * q.val = 2 + 1 * (8 + q.val) by omega)
  · exact (show 0 + 1 * l.val = 0 + 1 * l.val by omega)

theorem emb_new (n : ℕ) (h1) (h2) (q : Fin 30) (l : Fin 4096) (hq : ¬ q.val < 22) :
    (boxLast n h2).emb (ix3 0 q l : S1x30x4096.Idx) = (boxNew n h1).emb (ix3 0 ⟨q.val - 22, by omega⟩ l : S1x8x4096.Idx) := by
  funext k
  refine Fin.ext ?_
  fin_cases k
  · exact (show n + 1 * 0 = n + 1 * 0 by omega)
  · exact (show 10 + 1 * q.val = 32 + 1 * (q.val - 22) by omega)
  · exact (show 0 + 1 * l.val = 0 + 1 * l.val by omega)

/-- What stores leave in the scratch. -/
abbrev left (L : List (View.Piece (Elt Ideal) S2x40x4096 .f32)) : FVec Ideal S2x40x4096 .f32 := View.canon L

theorem left_emb (r : Rect S2x40x4096) (w : r.shape.Idx → Elt Ideal .f32) (L : List (View.Piece (Elt Ideal) S2x40x4096 .f32)) (y : r.shape.Idx) :
    left (⟨r, w⟩ :: L) (r.emb y) = w y := View.canon_cons_emb r w L y

theorem left_skip (r : Rect S2x40x4096) (w : r.shape.Idx → Elt Ideal .f32) (L : List (View.Piece (Elt Ideal) S2x40x4096 .f32)) (x : S2x40x4096.Idx)
    (h : x ∉ r.set) : left (⟨r, w⟩ :: L) x = left L x := View.canon_cons_of_not_mem ⟨r, w⟩ L h

theorem read_at {κ : Kind} {sp : Space} (v : View sig κ sp S2x40x4096 .f32) (L : List (View.Piece (Elt Ideal) S2x40x4096 .f32))
    (r : Rect S2x40x4096) (y : r.shape.Idx) :
    v.readCov (Val := Elt Ideal) L r.toLoadRect y = left L (r.emb y) := congrFun (View.readCov_eq_canon' v L r.toLoadRect) y

theorem read_last {κ : Kind} {sp : Space} (v : View sig κ sp S2x40x4096 .f32) (n : ℕ) (h1) (h2) (h3) (X : FVec Ideal S1x8x4096 .f32)
    (W : FVec Ideal S1x30x4096 .f32) (L : List (View.Piece (Elt Ideal) S2x40x4096 .f32)) (p : Fin 30) (l : Fin 4096) :
    (v.readCov (Val := Elt Ideal) (⟨boxNew n h1, X⟩ :: ⟨boxOld n h2, W⟩ :: L) (boxLast n h3).toLoadRect : FVec Ideal S1x30x4096 .f32) (ix3 0 p l)
      = if h : p.val < 22 then W (ix3 0 ⟨8 + p.val, by omega⟩ l) else X (ix3 0 ⟨p.val - 22, by omega⟩ l) := by
  refine (read_at v _ (boxLast n h3) (ix3 0 p l : S1x30x4096.Idx)).trans ?_
  by_cases h : p.val < 22
  · rw [dif_pos h]
    refine (left_skip (boxNew n h1) X _ _ (not_new n h1 h3 p l h)).trans ?_
    rw [emb_old n h2 h3 p l h]
    exact left_emb (boxOld n h2) W L (ix3 0 ⟨8 + p.val, by omega⟩ l : S1x30x4096.Idx)
  · rw [dif_neg h, emb_new n h1 h3 p l h]
    exact left_emb (boxNew n h1) X _ (ix3 0 ⟨p.val - 22, by omega⟩ l : S1x8x4096.Idx)

/-- The two samples' parts of a block of caches. -/
abbrev part (n : ℕ) (h : ∀ a, (![n, 0, 0] : Fin 3 → ℕ) a + S1x30x4096.size a ≤ S2x30x4096.size a) : Rect S2x30x4096 :=
  Rect.unit (s := S2x30x4096) ![n, 0, 0] S1x30x4096.size h

theorem emb_part (n : Fin 2) (h) (p : Fin 30) (l : Fin 4096) :
    (part n.val h).emb (ix3 0 p l : S1x30x4096.Idx) = (ix3 n p l : S2x30x4096.Idx) := by
  funext k
  refine Fin.ext ?_
  fin_cases k
  · exact (show n.val + 1 * 0 = n.val by omega)
  · exact (show 0 + 1 * p.val = p.val by omega)
  · exact (show 0 + 1 * l.val = l.val by omega)

theorem part_off (h0) (h1) (p : Fin 30) (l : Fin 4096) : (part 0 h0).emb (ix3 0 p l : S1x30x4096.Idx) ∉ (part 1 h1).set := by
  intro hm
  obtain ⟨i, _, he⟩ := (part 1 h1).mem_set.mp hm (0 : Fin 3)
  have he' : 0 + 1 * 0 = 1 + 1 * i := he
  omega

/-- What stores leave in a block of caches. -/
abbrev leftOut (L : List (View.Piece (Elt Ideal) S2x30x4096 .f32)) : FVec Ideal S2x30x4096 .f32 := View.canon L

theorem leftOut_emb (r : Rect S2x30x4096) (w : r.shape.Idx → Elt Ideal .f32) (L : List (View.Piece (Elt Ideal) S2x30x4096 .f32)) (y : r.shape.Idx) :
    leftOut (⟨r, w⟩ :: L) (r.emb y) = w y := View.canon_cons_emb r w L y

theorem leftOut_skip (r : Rect S2x30x4096) (w : r.shape.Idx → Elt Ideal .f32) (L : List (View.Piece (Elt Ideal) S2x30x4096 .f32)) (x : S2x30x4096.Idx)
    (h : x ∉ r.set) : leftOut (⟨r, w⟩ :: L) x = leftOut L x := View.canon_cons_of_not_mem ⟨r, w⟩ L h

/-- Two stores, one for each sample, leave each sample's store in its part. -/
theorem first_apply (X Y : FVec Ideal S1x30x4096 .f32) (p : Fin 30) (l : Fin 4096) :
    leftOut [⟨part 1 inb_S2x30x4096_S1x30x4096_1_0_0, Y⟩, ⟨part 0 inb_S2x30x4096_S1x30x4096_0_0_0, X⟩] (ix3 0 p l) = X (ix3 0 p l) := by
  have e := emb_part 0 inb_S2x30x4096_S1x30x4096_0_0_0 p l
  refine (congrArg _ e.symm).trans ?_
  refine (leftOut_skip (part 1 inb_S2x30x4096_S1x30x4096_1_0_0) Y _ _ (part_off _ _ p l)).trans ?_
  exact leftOut_emb (part 0 inb_S2x30x4096_S1x30x4096_0_0_0) X [] (ix3 0 p l : S1x30x4096.Idx)

theorem second_apply (X Y : FVec Ideal S1x30x4096 .f32) (p : Fin 30) (l : Fin 4096) :
    leftOut [⟨part 1 inb_S2x30x4096_S1x30x4096_1_0_0, Y⟩, ⟨part 0 inb_S2x30x4096_S1x30x4096_0_0_0, X⟩] (ix3 1 p l) = Y (ix3 0 p l) := by
  have e := emb_part 1 inb_S2x30x4096_S1x30x4096_1_0_0 p l
  refine (congrArg _ e.symm).trans ?_
  exact leftOut_emb (part 1 inb_S2x30x4096_S1x30x4096_1_0_0) Y _ (ix3 0 p l : S1x30x4096.Idx)

end scratch

/-- A step's caches: sample `n`'s old cache without its first eight rows, then its eight rows of the block. -/
theorem tail_of (t : Fin cfg0.N) (n : Fin 2) (p : Fin 30) (l : Fin 4096) :
    ((outsAt0 m c t).2 : FVec Ideal S2x30x4096 .f32) (ix3 n p l)
      = if h : p.val < 22 then (iblk m c 5 t : FVec Ideal S1x2x30x4096 .f32) (ix4 0 n ⟨8 + p.val, by omega⟩ l)
        else (iblk m c 0 t : FVec Ideal S16x4096 .f32) (ix2 ⟨n.val * 8 + (p.val - 22), by omega⟩ l) := by
  unfold outsAt0
  frame_out
  match n with
  | 0 =>
    have e : ∀ x : FVec Ideal S1x30x4096 .f32, k0_pay432 (F := Ideal) x (ix3 0 p l) = x (ix3 0 p l) := fun x => by pointwise [k0_pay432]
    refine ((first_apply _ _ p l).trans (e _)).trans ?_
    refine (read_last _ 0 _ _ _ _ _ _ p l).trans ?_
    by_cases h : p.val < 22
    · rw [dif_pos h, dif_pos h]
      pointwise [k0_pay2]
    · rw [dif_neg h, dif_neg h]
      pointwise [k0_pay4]
  | 1 =>
    have e : ∀ x : FVec Ideal S1x30x4096 .f32, k0_pay865 (F := Ideal) x (ix3 0 p l) = x (ix3 0 p l) := fun x => by pointwise [k0_pay865]
    refine ((second_apply _ _ p l).trans (e _)).trans ?_
    refine (read_last _ 1 _ _ _ _ _ _ p l).trans ?_
    by_cases h : p.val < 22
    · rw [dif_pos h, dif_pos h]
      pointwise [k0_pay434]
    · rw [dif_neg h, dif_neg h]
      pointwise []

/-- The gated unit's rows and the old caches, as launched. -/
abbrev argU : FVec Ideal S9216x4096 .f32 := m ((c : Thread nD τ).loc main_arg0)
abbrev argOld : FVec Ideal S1x128x30x4096 .f32 := m ((c : Thread nD τ).loc main_arg5)

theorem lt_N (t : Fin cfg0.N) : t.val < 64 := lt_of_lt_of_eq t.isLt N_0
theorem idx0 : ∀ t : Fin cfg0.N, win0_0.index t = ![512 + t.val, 0] := by decide +kernel
theorem idx5 : ∀ t : Fin cfg0.N, win0_5.index t = ![0, t.val, 0, 0] := by decide +kernel
theorem idx7 : ∀ t : Fin cfg0.N, win0_7.index t = ![t.val, 0, 0] := by decide +kernel

theorem blk_u (t : Fin cfg0.N) (r : Fin 16) (l : Fin 4096) :
    (iblk m c 0 t : FVec Ideal S16x4096 .f32) (ix2 r l) = argU m c (ix2 ⟨8192 + (t.val * 16 + r.val), by have := lt_N t; omega⟩ l) := by
  blk_simp [iblk]
  entry_read
  blk_ext!
  all_goals simp [idx0]
  all_goals omega

theorem blk_old (t : Fin cfg0.N) (n : Fin 2) (q : Fin 30) (l : Fin 4096) :
    (iblk m c 5 t : FVec Ideal S1x2x30x4096 .f32) (ix4 0 n q l) = argOld m c (ix4 0 ⟨t.val * 2 + n.val, by have := lt_N t; omega⟩ q l) := by
  blk_simp [iblk]
  entry_read
  blk_ext!
  all_goals simp [idx5]

/-- The new caches of all the samples. -/
def caches (u : FVec Ideal S9216x4096 .f32) (old : FVec Ideal S1x128x30x4096 .f32) : FVec Ideal S128x30x4096 .f32 := fun i =>
  ConvCache.newRow (fun r l => u (ix2 r l)) (fun b p l => old (ix4 0 b p l)) (i 0) (i 1) (i 2)

/-- The array of caches the kernel leaves. -/
theorem array7 : (dats m 0 c).arrAt 7 cfg0.N = caches (argU m c) (argOld m c) := by
  refine (dats m 0 c).arrAt_eq_of_covers 7 _ (by decide +kernel) fun t hf y => ?_
  blk_simp
  rw [after0_7]
  obtain ⟨n, p, l, rfl⟩ : ∃ (n : Fin 2) (p : Fin 30) (l : Fin 4096), y = ix3 n p l := ⟨y 0, y 1, y 2, eq_ix3 y⟩
  have ht := lt_N t
  have e : (win0_7.blk t).view.emb (ix3 n p l : S2x30x4096.Idx) = (ix3 ⟨t.val * 2 + n.val, by omega⟩ p l : S128x30x4096.Idx) := by
    blk_ext!
    all_goals simp [idx7]
  refine (tail_of m c t n p l).trans ?_
  rw [e]
  refine Eq.trans ?_ (show ConvCache.newRow (fun r l => argU m c (ix2 r l)) (fun b p l => argOld m c (ix4 0 b p l))
    ⟨t.val * 2 + n.val, by omega⟩ p l = _ from rfl)
  unfold ConvCache.newRow
  by_cases h : p.val < 22
  · rw [dif_pos h, dif_pos h]
    exact blk_old m c t n _ l
  · rw [dif_neg h, dif_neg h]
    refine (blk_u m c t _ l).trans ?_
    refine congrArg (argU m c) (congrArg₂ ix2 (Fin.ext ?_) rfl)
    show 8192 + (t.val * 16 + (n.val * 8 + (p.val - 22))) = 8192 + ((t.val * 2 + n.val) * 8 + (p.val - 22))
    omega

end Cert.Kernel8Ideal.Cache

end

end
-- ==== Proof.GlaMath.lean ====
/-
  Gated linear attention over the extended reals, without any program: one chunk of 64 rows as the recurrence writes it,
  one block of 128 rows as a masked product writes it, and the theorem that a block is two chunks.
-/
module

public import Idealize.ShloMosaic.PureOps.Ideal
public import Mathlib.Algebra.BigOperators.Fin
public import Mathlib.Data.EReal.Operations

@[expose] public section

noncomputable section

namespace Cert.Gla

open Idealize.ShloMosaic

/-! ## The exponential of what is not `⊤` -/

/-- `eˣ` is a real number unless `x = ⊤`. -/
theorem exp_real {x : EReal} (h : x ≠ ⊤) : ∃ r : ℝ, Ideal.exp x = (r : EReal) := by
  induction x with
  | bot => exact ⟨0, rfl⟩
  | coe x => exact ⟨_, Ideal.exp_coe x⟩
  | top => exact absurd rfl h

/-- `e^(x + y) = eˣ eʸ` away from `⊤`. -/
theorem exp_add {x y : EReal} (hx : x ≠ ⊤) (hy : y ≠ ⊤) : Ideal.exp (x + y) = Ideal.exp x * Ideal.exp y := by
  induction x with
  | bot => simp
  | top => exact absurd rfl hx
  | coe x =>
    induction y with
    | bot => simp
    | top => exact absurd rfl hy
    | coe y =>
      rw [← EReal.coe_add, Ideal.exp_coe, Ideal.exp_coe, Ideal.exp_coe, Real.exp_add, EReal.coe_mul]

theorem exp_zero : Ideal.exp 0 = 1 := by
  have := Ideal.exp_coe 0
  simpa using this

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of nonpositive terms is nonpositive. -/
theorem sum_nonpos' {ι : Type*} (s : Finset ι) (f : ι → EReal) (h : ∀ i ∈ s, f i ≤ 0) : ∑ i ∈ s, f i ≤ 0 :=
  Finset.sum_nonpos h

theorem ne_top_of_nonpos {x : EReal} (h : x ≤ 0) : x ≠ ⊤ := fun e => absurd (e ▸ h) (by simp)

theorem sub_nonpos_of_le {x y : EReal} (h : x ≤ y) (hy : y ≤ 0) : x - y ≤ 0 := by
  induction y with
  | bot => simp [le_bot_iff.mp h]
  | top => exact absurd hy (by simp)
  | coe y =>
    rw [EReal.sub_nonpos] <;> simp [h]

/-! ## One chunk of 64 rows -/

variable {K V : Type} [Fintype K] [Fintype V]

/-- The running sum of a chunk's log gates up to and with row `c`. -/
def cum (g : Fin 64 → EReal) (c : Fin 64) : EReal := ∑ s : Fin 64, if s ≤ c then g s else 0

/-- The sum of a chunk's log gates. -/
def tot (g : Fin 64 → EReal) : EReal := ∑ s : Fin 64, g s

/-- The state after a chunk: the decayed state and the products of the decayed keys with the values. -/
def stateStep (k g : Fin 64 → K → EReal) (v : Fin 64 → V → EReal) (S : K → V → EReal) (a : K) (b : V) : EReal :=
  Ideal.exp (tot fun s => g s a) * S a b
    + ∑ s : Fin 64, (k s a * Ideal.exp (tot (fun s => g s a) - cum (fun s => g s a) s)) * v s b

/-- What a chunk puts out: the queries against the state before it, and the causal scores against its values. -/
def outStep (q k g : Fin 64 → K → EReal) (v : Fin 64 → V → EReal) (S : K → V → EReal) (c : Fin 64) (b : V) : EReal :=
  (∑ a : K, (q c a * Ideal.exp (cum (fun s => g s a) c)) * S a b)
    + ∑ s : Fin 64, (if s ≤ c then
        ∑ a : K, (q c a * Ideal.exp (cum (fun s => g s a) c)) * (k s a * Ideal.exp (-cum (fun s => g s a) s)) else 0) * v s b

/-! ## One block of 128 rows, its two chunks told apart by `/ 64` -/

/-- The running sum inside a row's own chunk. -/
def kcum (l : Fin 128 → EReal) (r : Fin 128) : EReal :=
  ∑ s : Fin 128, if r.val / 64 = s.val / 64 ∧ s ≤ r then l s else 0
/-- The sum over a row's own chunk. -/
def ktot (l : Fin 128 → EReal) (r : Fin 128) : EReal := ∑ s : Fin 128, if r.val / 64 = s.val / 64 then l s else 0
/-- The sum over the chunks before a row's. -/
def kbefore (l : Fin 128 → EReal) (r : Fin 128) : EReal := ∑ s : Fin 128, if s.val / 64 < r.val / 64 then l s else 0
/-- The sum over the chunks after a row's. -/
def kafter (l : Fin 128 → EReal) (r : Fin 128) : EReal := ∑ s : Fin 128, if r.val / 64 < s.val / 64 then l s else 0

/-- The state after a block. -/
def kState (k l : Fin 128 → K → EReal) (v : Fin 128 → V → EReal) (S : K → V → EReal) (a : K) (b : V) : EReal :=
  S a b * Ideal.exp (∑ s : Fin 128, l s a)
    + ∑ s : Fin 128, ((k s a * Ideal.exp (ktot (fun s => l s a) s - kcum (fun s => l s a) s))
        * Ideal.exp (kafter (fun s => l s a) s)) * v s b

/-- What a block puts out. -/
def kOut (q k l : Fin 128 → K → EReal) (v : Fin 128 → V → EReal) (S : K → V → EReal) (r : Fin 128) (b : V) : EReal :=
  (∑ s : Fin 128,
      ((if r.val / 64 = s.val / 64 ∧ s ≤ r then
          ∑ a : K, (q r a * Ideal.exp (kcum (fun s => l s a) r)) * (k s a * Ideal.exp (0 - kcum (fun s => l s a) s)) else 0)
        + (if s.val / 64 < r.val / 64 then
          ∑ a : K, (q r a * Ideal.exp (kcum (fun s => l s a) r))
            * (k s a * Ideal.exp (ktot (fun s => l s a) s - kcum (fun s => l s a) s)) else 0)) * v s b)
    + ∑ a : K, (q r a * Ideal.exp (kcum (fun s => l s a) r + kbefore (fun s => l s a) r)) * S a b

/-- Row `c` of a block's first chunk. -/
def lo (c : Fin 64) : Fin 128 := ⟨c.val, by omega⟩
/-- Row `c` of a block's second chunk. -/
def hi (c : Fin 64) : Fin 128 := ⟨64 + c.val, by omega⟩

theorem sum_halves {M : Type*} [AddCommMonoid M] (f : Fin 128 → M) :
    ∑ s : Fin 128, f s = ∑ s : Fin 64, f (lo s) + ∑ s : Fin 64, f (hi s) :=
  Fin.sum_univ_add (a := 64) (b := 64) f

@[simp] theorem lo_div (c : Fin 64) : (lo c).val / 64 = 0 := Nat.div_eq_of_lt c.isLt
@[simp] theorem hi_div (c : Fin 64) : (hi c).val / 64 = 1 := by
  show (64 + c.val) / 64 = 1
  omega
@[simp] theorem lo_le (s c : Fin 64) : (lo s ≤ lo c) = (s ≤ c) := rfl
@[simp] theorem hi_le (s c : Fin 64) : (hi s ≤ hi c) = (s ≤ c) := by
  refine propext ?_
  show 64 + s.val ≤ 64 + c.val ↔ s.val ≤ c.val
  omega

section sums
variable (l : Fin 128 → EReal) (c : Fin 64)
theorem kcum_lo : kcum l (lo c) = cum (fun s => l (lo s)) c := by simp [kcum, cum, sum_halves]
theorem kcum_hi : kcum l (hi c) = cum (fun s => l (hi s)) c := by simp [kcum, cum, sum_halves]
theorem ktot_lo : ktot l (lo c) = tot (fun s => l (lo s)) := by simp [ktot, tot, sum_halves]
theorem ktot_hi : ktot l (hi c) = tot (fun s => l (hi s)) := by simp [ktot, tot, sum_halves]
theorem kbefore_lo : kbefore l (lo c) = 0 := by simp [kbefore, sum_halves]
theorem kbefore_hi : kbefore l (hi c) = tot (fun s => l (lo s)) := by
  simp only [kbefore, tot, sum_halves, lo_div, hi_div]
  simp
theorem kafter_lo : kafter l (lo c) = tot (fun s => l (hi s)) := by
  simp only [kafter, tot, sum_halves, lo_div, hi_div]
  simp
theorem kafter_hi : kafter l (hi c) = 0 := by simp [kafter, sum_halves]
theorem kall : ∑ s : Fin 128, l s = tot (fun s => l (lo s)) + tot (fun s => l (hi s)) := by simp [tot, sum_halves]
end sums

/-! ## The gates are nonpositive, so the decays are real -/

section gates
variable {g : Fin 64 → EReal} (hg : ∀ s, g s ≤ 0)
include hg

theorem tot_nonpos : tot g ≤ 0 := Finset.sum_nonpos fun s _ => hg s
theorem cum_nonpos (c : Fin 64) : cum g c ≤ 0 := Finset.sum_nonpos fun s _ => by
  split
  · exact hg s
  · exact le_refl _
theorem tot_le_cum (c : Fin 64) : tot g ≤ cum g c := Finset.sum_le_sum fun s _ => by
  split
  · exact le_refl _
  · exact hg s
theorem exp_tot_real : ∃ r : ℝ, Ideal.exp (tot g) = (r : EReal) := exp_real (ne_top_of_nonpos (tot_nonpos hg))
theorem exp_cum_real (c : Fin 64) : ∃ r : ℝ, Ideal.exp (cum g c) = (r : EReal) :=
  exp_real (ne_top_of_nonpos (cum_nonpos hg c))
theorem exp_rest_real (c : Fin 64) : ∃ r : ℝ, Ideal.exp (tot g - cum g c) = (r : EReal) :=
  exp_real (ne_top_of_nonpos (sub_nonpos_of_le (tot_le_cum hg c) (cum_nonpos hg c)))
end gates

/-- An array of the extended reals holds real numbers only. -/
def IsReal {A B : Type} (f : A → B → EReal) : Prop := ∀ a b, ∃ r : ℝ, f a b = (r : EReal)

/-- A chunk's state is real if the state before it, the keys and the values are. -/
theorem stateStep_real {k g : Fin 64 → K → EReal} {v : Fin 64 → V → EReal} {S : K → V → EReal}
    (hk : IsReal k) (hv : IsReal v) (hS : IsReal S) (hg : ∀ s a, g s a ≤ 0) : IsReal (stateStep k g v S) := by
  intro a b
  choose k' hk' using hk
  choose v' hv' using hv
  choose S' hS' using hS
  obtain ⟨T, hT⟩ := exp_tot_real (g := fun s => g s a) fun s => hg s a
  choose e he using exp_rest_real (g := fun s => g s a) fun s => hg s a
  refine ⟨T * S' a b + ∑ s, k' s a * e s * v' s b, ?_⟩
  simp only [stateStep, hT, he, hk', hv', hS', EReal.coe_add, EReal.coe_mul, coe_sum]

section twoChunks
variable {q k l : Fin 128 → K → EReal} {v : Fin 128 → V → EReal} {S : K → V → EReal}

/-- A BLOCK'S STATE is the second chunk's over the first's. -/
theorem kState_eq (hk : IsReal k) (hv : IsReal v) (hS : IsReal S) (hl : ∀ s a, l s a ≤ 0) (a : K) (b : V) :
    kState k l v S a b
      = stateStep (fun c => k (hi c)) (fun c => l (hi c)) (fun c => v (hi c))
          (stateStep (fun c => k (lo c)) (fun c => l (lo c)) (fun c => v (lo c)) S) a b := by
  choose k' hk' using hk
  choose v' hv' using hv
  choose S' hS' using hS
  have h0 : ∀ s : Fin 64, l (lo s) a ≤ 0 := fun s => hl _ _
  have h1 : ∀ s : Fin 64, l (hi s) a ≤ 0 := fun s => hl _ _
  obtain ⟨T0, hT0⟩ := exp_tot_real h0
  obtain ⟨T1, hT1⟩ := exp_tot_real h1
  choose e0 he0 using exp_rest_real h0
  choose e1 he1 using exp_rest_real h1
  have hT : Ideal.exp (tot (fun s => l (lo s) a) + tot (fun s => l (hi s) a)) = ((T0 * T1 : ℝ) : EReal) := by
    rw [exp_add (ne_top_of_nonpos (tot_nonpos h0)) (ne_top_of_nonpos (tot_nonpos h1)), hT0, hT1, EReal.coe_mul]
  unfold kState
  rw [kall (fun s => l s a), hT]
  simp only [stateStep, sum_halves, ktot_lo, ktot_hi, kcum_lo, kcum_hi, kafter_lo, kafter_hi, exp_zero,
    hT0, hT1, he0, he1, hk', hv', hS', mul_one, ← EReal.coe_mul, ← coe_sum, ← EReal.coe_add]
  congr 1
  rw [mul_add, Finset.mul_sum, ← add_assoc]
  congr 2
  · ring
  · exact Finset.sum_congr rfl fun s _ => by ring

/-- A BLOCK'S FIRST 64 ROWS are the first chunk's. -/
theorem kOut_lo (c : Fin 64) (b : V) :
    kOut q k l v S (lo c) b = outStep (fun c => q (lo c)) (fun c => k (lo c)) (fun c => l (lo c)) (fun c => v (lo c)) S c b := by
  simp only [kOut, outStep, sum_halves, kcum_lo, kbefore_lo, ktot_lo, lo_div, hi_div, lo_le, add_zero, zero_sub]
  simp [add_comm]

/-- A BLOCK'S LAST 64 ROWS are the second chunk's, over the state the first leaves. -/
theorem kOut_hi (hq : IsReal q) (hk : IsReal k) (hv : IsReal v) (hS : IsReal S) (hl : ∀ s a, l s a ≤ 0) (c : Fin 64) (b : V) :
    kOut q k l v S (hi c) b
      = outStep (fun c => q (hi c)) (fun c => k (hi c)) (fun c => l (hi c)) (fun c => v (hi c))
          (stateStep (fun c => k (lo c)) (fun c => l (lo c)) (fun c => v (lo c)) S) c b := by
  choose q' hq' using hq
  choose k' hk' using hk
  choose v' hv' using hv
  choose S' hS' using hS
  have h0 : ∀ (a : K) (s : Fin 64), l (lo s) a ≤ 0 := fun a s => hl _ _
  have h1 : ∀ (a : K) (s : Fin 64), l (hi s) a ≤ 0 := fun a s => hl _ _
  choose T0 hT0 using fun a => exp_tot_real (h0 a)
  choose e0 he0 using fun a => exp_rest_real (h0 a)
  choose E hE using fun a => exp_cum_real (h1 a) c
  have hT : ∀ a, Ideal.exp (cum (fun s => l (hi s) a) c + tot (fun s => l (lo s) a)) = ((E a * T0 a : ℝ) : EReal) := fun a => by
    rw [exp_add (ne_top_of_nonpos (cum_nonpos (h1 a) c)) (ne_top_of_nonpos (tot_nonpos (h0 a))), hE, hT0, EReal.coe_mul]
  have key : (∑ s : Fin 64, (∑ a : K, q' (hi c) a * E a * (k' (lo s) a * e0 a s)) * v' (lo s) b)
      + ∑ a : K, q' (hi c) a * (E a * T0 a) * S' a b
      = ∑ a : K, q' (hi c) a * E a * (T0 a * S' a b + ∑ s : Fin 64, k' (lo s) a * e0 a s * v' (lo s) b) := by
    simp only [Finset.sum_mul, mul_add, Finset.sum_add_distrib, Finset.mul_sum]
    rw [Finset.sum_comm, add_comm]
    congr 1
    · exact Finset.sum_congr rfl fun a _ => by ring
    · exact Finset.sum_congr rfl fun a _ => Finset.sum_congr rfl fun s _ => by ring
  have key' := congrArg (fun x : ℝ => (x : EReal)) key
  simp only [EReal.coe_add, EReal.coe_mul, coe_sum] at key'
  simp only [kOut, outStep, stateStep, sum_halves, kcum_lo, kcum_hi, kbefore_hi, ktot_lo, ktot_hi, lo_div, hi_div, hi_le,
    zero_sub, hT, hT0, he0, hE, hq', hk', hv', hS', one_ne_zero, false_and, if_false, zero_add, true_and, zero_lt_one,
    if_true, lt_irrefl, add_zero, EReal.coe_mul]
  rw [← key']
  abel
end twoChunks

end Cert.Gla

end
-- ==== Proof.Spec.lean ====
/-
  The attention of one batch and one head, of the argument arrays: the rows' queries, keys, values and log gates, the
  state before each chunk, and the result's entries.
-/
module

public import Idealize.ShloMosaic.Lib.Pointwise
public import proofs.«01_k».proof.Proof.GlaMath

@[expose] public section

noncomputable section

namespace Cert.Gla

open Idealize.ShloMosaic

/-! ## The log gate -/

/-- The log gate of a pre-activation: its log sigmoid, over sixteen. -/
def logGate (z : EReal) : EReal :=
  (min z 0 - Ideal.log1p (Ideal.exp (0 - max z (-z)))) * Ideal.ofBits FTy.f32 0x3D800000#32

theorem sixteenth : Ideal.ofBits FTy.f32 0x3D800000#32 = ((1 / 16 : ℝ) : EReal) := by
  simp [Ideal.ofBits, Ideal.ieee, -EReal.coe_mul]; norm_num

theorem sixteen : Ideal.ofBits FTy.f32 0x41800000#32 = ((16 : ℝ) : EReal) := by
  simp [Ideal.ofBits, Ideal.ieee, -EReal.coe_mul]; norm_num

theorem log1p_coe {x : ℝ} (h : 0 ≤ x) : Ideal.log1p (x : EReal) = ((Real.log (1 + x) : ℝ) : EReal) := by
  show Ideal.log (1 + (x : EReal)) = _
  rw [← EReal.coe_one, ← EReal.coe_add]
  show (if 1 + x ≤ 0 then ⊥ else (Real.log (1 + x) : EReal)) = _
  rw [if_neg (by linarith)]

/-- What the sigmoid's logarithm leaves under its larger part is a nonnegative real. -/
theorem log1p_exp (z : EReal) : ∃ r : ℝ, 0 ≤ r ∧ Ideal.log1p (Ideal.exp (0 - max z (-z))) = (r : EReal) := by
  have h : ∃ x : ℝ, 0 ≤ x ∧ Ideal.exp (0 - max z (-z)) = (x : EReal) := by
    induction z with
    | bot => exact ⟨0, le_refl _, by simp⟩
    | top => exact ⟨0, le_refl _, by simp⟩
    | coe z =>
      refine ⟨Real.exp (0 - max z (-z)), (Real.exp_pos _).le, ?_⟩
      have hm : max (z : EReal) (-(z : EReal)) = ((max z (-z) : ℝ) : EReal) := by
        rw [← EReal.coe_neg]
        exact (EReal.coe_strictMono.monotone.map_max).symm
      rw [hm, ← EReal.coe_zero, ← EReal.coe_sub]
      exact Ideal.exp_coe _
  obtain ⟨x, hx, e⟩ := h
  exact ⟨Real.log (1 + x), Real.log_nonneg (by linarith), by rw [e, log1p_coe hx]⟩

/-- A log gate is never positive. -/
theorem logGate_nonpos (z : EReal) : logGate z ≤ 0 := by
  obtain ⟨r, hr, e⟩ := log1p_exp z
  unfold logGate
  rw [e, sixteenth]
  refine EReal.mul_nonpos_iff.mpr (Or.inr ⟨?_, by exact_mod_cast (by norm_num : (0 : ℝ) ≤ 1 / 16)⟩)
  rw [sub_eq_add_neg, ← EReal.coe_neg]
  refine (add_le_add (min_le_right z 0) (EReal.coe_le_coe_iff.mpr (neg_nonpos.mpr hr))).trans ?_
  simp

/-- The log gate, written as minus the softplus of minus the pre-activation, over sixteen. -/
theorem logGate_eq (z : EReal) :
    Ideal.div (-(max (-z) 0 + Ideal.log1p (Ideal.exp (-max (-z) (-(-z)))))) (Ideal.ofBits FTy.f32 0x41800000#32) = logGate z := by
  unfold logGate
  rw [sixteen, sixteenth, Ideal.div_coe (by norm_num), neg_neg, max_comm (-z) z, ← zero_sub (max z (-z))]
  obtain ⟨r, hr, e⟩ := log1p_exp z
  rw [e, EReal.neg_add (Or.inr (EReal.coe_ne_top r)) (Or.inr (EReal.coe_ne_bot r))]
  have hm : -max (-z) 0 = min z 0 := by
    have h := EReal.max_neg_neg z 0
    rw [neg_zero] at h
    rw [h, neg_neg]
  rw [hm]

/-! ## The rows -/

section rows
variable (P : (⟨2, ![9216, 12288]⟩ : Shape).Idx → EReal) (G : (⟨2, ![9216, 128]⟩ : Shape).Idx → EReal)
  (W : (⟨3, ![1, 16, 2048]⟩ : Shape).Idx → EReal) (B : (⟨2, ![1, 2048]⟩ : Shape).Idx → EReal)
  (N : (⟨2, ![1, 1024]⟩ : Shape).Idx → EReal)

/-- Row `c` of chunk `n` of batch `bb`. -/
def row (bb : Fin 4) (n : ℕ) (c : Fin 64) : Fin 9216 := ⟨(bb.val * 2048 + (n * 64 + c.val)) % 9216, Nat.mod_lt _ (by decide)⟩

theorem row_val (bb : Fin 4) {n : ℕ} (h : n < 32) (c : Fin 64) : (row bb n c).val = bb.val * 2048 + (n * 64 + c.val) :=
  Nat.mod_eq_of_lt (by omega)

/-- The scaled queries of a chunk. -/
def qry (bb hh : Fin 4) (n : ℕ) (c : Fin 64) (a : Fin 512) : EReal :=
  P (ix2 (row bb n c) ⟨hh.val * 512 + a.val, by omega⟩) * Ideal.ofBits FTy.f32 0x3D3504F3#32
/-- The keys of a chunk. -/
def key (bb hh : Fin 4) (n : ℕ) (c : Fin 64) (a : Fin 512) : EReal :=
  P (ix2 (row bb n c) ⟨2048 + (hh.val * 512 + a.val), by omega⟩)
/-- The values of a chunk. -/
def val (bb hh : Fin 4) (n : ℕ) (c : Fin 64) (b : Fin 1024) : EReal :=
  P (ix2 (row bb n c) ⟨4096 + (hh.val * 1024 + b.val), by omega⟩)
/-- The output gates of a chunk. -/
def rec (bb hh : Fin 4) (n : ℕ) (c : Fin 64) (b : Fin 1024) : EReal :=
  P (ix2 (row bb n c) ⟨8192 + (hh.val * 1024 + b.val), by omega⟩)
/-- The log gates of a chunk. -/
def gate (bb hh : Fin 4) (n : ℕ) (c : Fin 64) (a : Fin 512) : EReal :=
  logGate ((∑ x : Fin 16, G (ix2 (row bb n c) ⟨x.val, by omega⟩) * W (ix3 0 x ⟨hh.val * 512 + a.val, by omega⟩))
    + B (ix2 0 ⟨hh.val * 512 + a.val, by omega⟩))

/-- The state before chunk `n`. -/
def st (bb hh : Fin 4) : ℕ → Fin 512 → Fin 1024 → EReal
  | 0 => fun _ _ => 0
  | n + 1 => stateStep (key P bb hh n) (gate G W B bb hh n) (val P bb hh n) (st bb hh n)

/-- A chunk's rows before they are normalised. -/
def rows (bb hh : Fin 4) (n : ℕ) : Fin 64 → Fin 1024 → EReal :=
  outStep (qry P bb hh n) (key P bb hh n) (gate G W B bb hh n) (val P bb hh n) (st P G W B bb hh n)

/-- A row normalised by its root mean square, weighted, and gated. -/
def norm (o : Fin 1024 → EReal) (w r : Fin 1024 → EReal) (b : Fin 1024) : EReal :=
  o b * Ideal.rsqrt (Ideal.div (∑ x, o x * o x) (Ideal.ofBits FTy.f32 1149239296#32) + Ideal.ofBits FTy.f32 897988541#32) * w b
    * (r b * Ideal.div 1 (1 + Ideal.exp (-r b)))

/-- An entry of the result. -/
def out (bb hh : Fin 4) (n : ℕ) (c : Fin 64) (b : Fin 1024) : EReal :=
  norm (rows P G W B bb hh n c) (fun b => N (ix2 0 b)) (rec P bb hh n c) b

/-- The queries, keys and values of the rows are real numbers. -/
def RealQkv : Prop := ∀ (i : Fin 9216) (j : Fin 12288), i.val < 8192 → j.val < 8192 → ∃ r : ℝ, P (ix2 i j) = (r : EReal)

variable {P}
variable (hP : RealQkv P) (bb hh : Fin 4) {n : ℕ}

theorem scale_real : ∃ r : ℝ, Ideal.ofBits FTy.f32 0x3D3504F3#32 = (r : EReal) := by
  refine ⟨?_, ?_⟩
  rotate_left
  · simp [Ideal.ofBits, Ideal.ieee, -EReal.coe_mul]
    rfl

theorem gate_nonpos (c : Fin 64) (a : Fin 512) : gate G W B bb hh n c a ≤ 0 := logGate_nonpos _

include hP

theorem key_real (h : n < 32) : IsReal (key P bb hh n) := fun c a =>
  hP _ _ (by rw [row_val bb h]; omega) (by show 2048 + (hh.val * 512 + a.val) < 8192; omega)
theorem val_real (h : n < 32) : IsReal (val P bb hh n) := fun c b =>
  hP _ _ (by rw [row_val bb h]; omega) (by show 4096 + (hh.val * 1024 + b.val) < 8192; omega)
theorem qry_real (h : n < 32) : IsReal (qry P bb hh n) := fun c a => by
  obtain ⟨x, hx⟩ := hP (row bb n c) ⟨hh.val * 512 + a.val, by omega⟩ (by rw [row_val bb h]; omega) (by show hh.val * 512 + a.val < 8192; omega)
  obtain ⟨s, hs⟩ := scale_real
  exact ⟨x * s, by rw [qry, hx, hs, EReal.coe_mul]⟩
theorem st_real : ∀ {n : ℕ}, n ≤ 32 → IsReal (st P G W B bb hh n)
  | 0, _ => fun _ _ => ⟨0, rfl⟩
  | n + 1, h => stateStep_real (key_real hP bb hh h) (val_real hP bb hh h) (st_real (Nat.le_of_succ_le h))
      fun c a => gate_nonpos G W B bb hh c a

end rows

end Cert.Gla

end
-- ==== Proof.SampleMath.lean ====
/-
  Gated linear attention of the sampled rows: eight rows of one sequence over the state they start from, as the recurrence
  writes them, and the sums over a block of sixteen rows — two sequences — that a mask cuts down to one of them.
-/
module

public import proofs.«01_k».proof.Proof.Spec

@[expose] public section

noncomputable section

namespace Cert.Sample

open Idealize.ShloMosaic

/-! ## Eight rows of one sequence -/

section rec
variable {K V : Type} [Fintype K] [Fintype V]

/-- The running sum of the log gates up to and with row `c`. -/
def cum (g : Fin 8 → EReal) (c : Fin 8) : EReal := ∑ s : Fin 8, if s ≤ c then g s else 0

/-- The sum of the log gates. -/
def tot (g : Fin 8 → EReal) : EReal := ∑ s : Fin 8, g s

/-- The state after the rows: the decayed state and the products of the decayed keys with the values. -/
def stateStep (k g : Fin 8 → K → EReal) (v : Fin 8 → V → EReal) (S : K → V → EReal) (a : K) (b : V) : EReal :=
  Ideal.exp (tot fun s => g s a) * S a b
    + ∑ s : Fin 8, (k s a * Ideal.exp (tot (fun s => g s a) - cum (fun s => g s a) s)) * v s b

/-- The causal score of row `c` against row `s`. -/
def score (q k g : Fin 8 → K → EReal) (c s : Fin 8) : EReal :=
  if s ≤ c then ∑ a : K, (q c a * Ideal.exp (cum (fun s => g s a) c)) * (k s a * Ideal.exp (-cum (fun s => g s a) s)) else 0

/-- What the rows put out: the queries against the state before them, and the causal scores against their values. -/
def outStep (q k g : Fin 8 → K → EReal) (v : Fin 8 → V → EReal) (S : K → V → EReal) (c : Fin 8) (b : V) : EReal :=
  (∑ a : K, (q c a * Ideal.exp (cum (fun s => g s a) c)) * S a b) + ∑ s : Fin 8, score q k g c s * v s b

end rec

/-! ## A block of two sequences -/

/-- Row `c` of sequence `n` of a block. -/
def pos (n : Fin 2) (c : Fin 8) : Fin 16 := ⟨n.val * 8 + c.val, by omega⟩

theorem pos_seq (n : Fin 2) (c : Fin 8) : (pos n c).val / 8 = n.val := by simp only [pos]; omega

theorem pos_le (n : Fin 2) (s c : Fin 8) : pos n s ≤ pos n c ↔ s ≤ c := by
  rw [Fin.le_def, Fin.le_def]; simp only [pos]; omega

theorem pos_cases (r : Fin 16) : r = pos ⟨r.val / 8, by omega⟩ ⟨r.val % 8, by omega⟩ := Fin.ext (by simp only [pos]; omega)

/-- A sum over a block, by its two sequences. -/
theorem sum_block (f : Fin 16 → EReal) : ∑ s, f s = (∑ c, f (pos 0 c)) + ∑ c, f (pos 1 c) := by
  refine (Fin.sum_univ_add (a := 8) (b := 8) f).trans ?_
  congr 1 <;> refine Finset.sum_congr rfl fun c _ => congrArg f (Fin.ext ?_) <;> simp [pos]

/-- A sum over a block whose terms outside sequence `n` are zero is the sum over that sequence. -/
theorem sum_mine (n : Fin 2) (f : Fin 16 → EReal) (h : ∀ s, s.val / 8 ≠ n.val → f s = 0) : ∑ s, f s = ∑ c, f (pos n c) := by
  rw [sum_block]
  match n with
  | ⟨0, _⟩ =>
    rw [Finset.sum_eq_zero (s := Finset.univ) (f := fun c => f (pos 1 c)), add_zero]
    · rfl
    · exact fun c _ => h _ (by rw [pos_seq]; exact Nat.one_ne_zero)
  | ⟨1, _⟩ =>
    rw [Finset.sum_eq_zero (s := Finset.univ) (f := fun c => f (pos 0 c)), zero_add]
    · rfl
    · exact fun c _ => h _ (by rw [pos_seq]; exact Nat.zero_ne_one)

/-- The running sum inside a row's own sequence. -/
def bcum (l : Fin 16 → EReal) (r : Fin 16) : EReal := ∑ s : Fin 16, if r.val / 8 = s.val / 8 ∧ s ≤ r then l s else 0
/-- The sum over a row's own sequence. -/
def btot (l : Fin 16 → EReal) (r : Fin 16) : EReal := ∑ s : Fin 16, if r.val / 8 = s.val / 8 then l s else 0

theorem bcum_pos (l : Fin 16 → EReal) (n : Fin 2) (c : Fin 8) : bcum l (pos n c) = cum (fun s => l (pos n s)) c := by
  unfold bcum cum
  rw [sum_mine n]
  · refine Finset.sum_congr rfl fun s _ => ?_
    simp only [pos_seq, pos_le, true_and]
  · intro s hs
    rw [if_neg]
    rw [pos_seq]
    exact fun h => hs h.1.symm

theorem btot_pos (l : Fin 16 → EReal) (n : Fin 2) (c : Fin 8) : btot l (pos n c) = tot (fun s => l (pos n s)) := by
  unfold btot tot
  rw [sum_mine n]
  · exact Finset.sum_congr rfl fun s _ => if_pos (by rw [pos_seq, pos_seq])
  · intro s hs
    rw [if_neg]
    rw [pos_seq]
    exact fun h => hs h.symm

/-! ## The sampled rows of the arrays -/

section rows
variable (P : (⟨2, ![9216, 12288]⟩ : Shape).Idx → EReal) (G : (⟨2, ![9216, 128]⟩ : Shape).Idx → EReal)
  (W : (⟨3, ![1, 16, 2048]⟩ : Shape).Idx → EReal) (B : (⟨2, ![1, 2048]⟩ : Shape).Idx → EReal)
  (N : (⟨2, ![1, 1024]⟩ : Shape).Idx → EReal) (S0 : (⟨5, ![1, 128, 4, 512, 1024]⟩ : Shape).Idx → EReal)

/-- Row `c` of sampled sequence `bb`: they follow the prompt's 8192 rows. -/
def row (bb : Fin 128) (c : Fin 8) : Fin 9216 := ⟨8192 + (bb.val * 8 + c.val), by omega⟩

/-- The scaled queries of a sequence. -/
def qry (bb : Fin 128) (hh : Fin 4) (c : Fin 8) (a : Fin 512) : EReal :=
  P (ix2 (row bb c) ⟨hh.val * 512 + a.val, by omega⟩) * Ideal.ofBits FTy.f32 0x3D3504F3#32
/-- The keys of a sequence. -/
def key (bb : Fin 128) (hh : Fin 4) (c : Fin 8) (a : Fin 512) : EReal :=
  P (ix2 (row bb c) ⟨2048 + (hh.val * 512 + a.val), by omega⟩)
/-- The values of a sequence. -/
def val (bb : Fin 128) (hh : Fin 4) (c : Fin 8) (b : Fin 1024) : EReal :=
  P (ix2 (row bb c) ⟨4096 + (hh.val * 1024 + b.val), by omega⟩)
/-- The output gates of a sequence. -/
def rec (bb : Fin 128) (hh : Fin 4) (c : Fin 8) (b : Fin 1024) : EReal :=
  P (ix2 (row bb c) ⟨8192 + (hh.val * 1024 + b.val), by omega⟩)
/-- The log gates of a sequence. -/
def gate (bb : Fin 128) (hh : Fin 4) (c : Fin 8) (a : Fin 512) : EReal :=
  Gla.logGate ((∑ x : Fin 16, G (ix2 (row bb c) ⟨x.val, by omega⟩) * W (ix3 0 x ⟨hh.val * 512 + a.val, by omega⟩))
    + B (ix2 0 ⟨hh.val * 512 + a.val, by omega⟩))
/-- The state a sequence starts from. -/
def old (bb : Fin 128) (hh : Fin 4) (a : Fin 512) (b : Fin 1024) : EReal := S0 (ix5 0 bb hh a b)

/-- The state after a sequence's rows. -/
def st (bb : Fin 128) (hh : Fin 4) : Fin 512 → Fin 1024 → EReal :=
  stateStep (key P bb hh) (gate G W B bb hh) (val P bb hh) (old S0 bb hh)

/-- A sequence's rows before they are normalised. -/
def rows (bb : Fin 128) (hh : Fin 4) : Fin 8 → Fin 1024 → EReal :=
  outStep (qry P bb hh) (key P bb hh) (gate G W B bb hh) (val P bb hh) (old S0 bb hh)

/-- An entry of the result. -/
def out (bb : Fin 128) (hh : Fin 4) (c : Fin 8) (b : Fin 1024) : EReal :=
  Gla.norm (rows P G W B S0 bb hh c) (fun b => N (ix2 0 b)) (rec P bb hh c) b

end rows

end Cert.Sample

end
-- ==== Proof.SampleBlock.lean ====
/-
  What the body of the sampled attention's kernel computes at one grid point, read at an index: over blocks of sixteen rows
  — two sequences of eight — of queries, keys, values and log gates, the states it leaves and the rows it makes are each
  sequence's own (Proof/SampleMath.lean).
-/
module

public import Idealize.ShloMosaic.Lib.Pointwise
public import proofs.«01_k».proof.Proof.SampleMath
public import proofs.«01_k».proof.Proof.Gen.Kernel6Ideal.Skeleton

@[expose] public section

set_option maxRecDepth 16384

noncomputable section

namespace Cert.Kernel6Ideal.Block

open Cert.Kernel6Ideal Cert.Kernel6Ideal.Gen Idealize.ShloMosaic Idealize.ShloMosaic.TcCoe

/-- The row numbers and the column numbers of a block of scores. -/
abbrev io0 : IVec S16x16 32 := iota .tc S16x16 32 [0] iota_S16x16_d0_w32
abbrev io1 : IVec S16x16 32 := iota .tc S16x16 32 [1] iota_S16x16_d1_w32

/-! ## The payloads that prepare a block and finish it -/

theorem pay4_apply (x : FVec Ideal S16x512 .bf16) (r : Fin 16) (a : Fin 512) :
    (k0_pay4 (F := Ideal) x) (ix2 r a) = x (ix2 r a) * Ideal.ofBits FTy.f32 0x3D3504F3#32 := by
  pointwise [k0_pay4]
theorem pay5_apply (x : FVec Ideal S16x512 .bf16) (r : Fin 16) (a : Fin 512) :
    (k0_pay5 (F := Ideal) x) (ix2 r a) = x (ix2 r a) := by
  pointwise [k0_pay5]
theorem pay6_apply (g : FVec Ideal S16x128 .f32) (w : FVec Ideal S128x512 .f32) (b : FVec Ideal S1x1x512 .f32) (r : Fin 16) (a : Fin 512) :
    (k0_pay6 (F := Ideal) g w b) (ix2 r a) = Gla.logGate ((∑ x, g (ix2 r x) * w (ix2 x a)) + b (ix3 0 0 a)) := by
  pointwise [k0_pay6]
  rfl
/-- A row normalised, weighted and gated. -/
theorem finish_apply (o : FVec Ideal S16x1024 .f32) (w : FVec Ideal S1x1x1024 .f32) (r : FVec Ideal S16x1024 .bf16) (i : Fin 16) (b : Fin 1024) :
    (k0_pay1 (F := Ideal) (k0_pay26 o w) (k0_pay27 r) (k0_pay28 r)) (ix2 i b)
      = Gla.norm (fun b => o (ix2 i b)) (fun b => w (ix3 0 0 b)) (fun b => r (ix2 i b)) b := by
  pointwise [k0_pay1, k0_pay26, k0_pay27, k0_pay28]
  rw [zero_sub]
  rfl
theorem pay2_apply (x : FVec Ideal S2x512x1024 .f32) (n : Fin 2) (a : Fin 512) (b : Fin 1024) :
    (k0_pay2 (F := Ideal) x) (ix4 n 0 a b) = x (ix3 n a b) := by
  pointwise [k0_pay2]
theorem pay3_apply (x : FVec Ideal S1x2x1x512x1024 .f32) (n : Fin 2) (a : Fin 512) (b : Fin 1024) :
    (k0_pay3 (F := Ideal) x) (ix3 n a b) = x (ix5 0 n 0 a b) := by
  pointwise [k0_pay3]

/-! ## The masks -/

/-- Rows of one sequence. -/
theorem same_apply : ∀ r s : Fin 16, k0_pay8 io1 k0_pay7 3#32 (ix2 r s) = if r.val / 8 = s.val / 8 then 1#1 else 0#1 := by
  decide +kernel

/-- … and not after. -/
theorem causal_apply : ∀ r s : Fin 16, k0_pay9 io0 io1 k0_pay7 3#32 (ix2 r s) = if r.val / 8 = s.val / 8 ∧ s ≤ r then 1#1 else 0#1 := by
  decide +kernel

/-- Rows of the first sequence, and of the second. -/
theorem first_apply : ∀ r : Fin 16, k0_pay20 k0_pay17 0#32 (ix2 r 0) = if r.val / 8 = 0 then 1#1 else 0#1 := by
  decide +kernel
theorem second_apply : ∀ r : Fin 16, k0_pay23 k0_pay17 (ix2 r 0) = if r.val / 8 = 1 then 1#1 else 0#1 := by
  decide +kernel

theorem select_if (p : Prop) [Decidable p] (x y : EReal) : Scalar.select (if p then 1#1 else 0#1) x y = if p then x else y := by
  by_cases h : p <;> simp [h, Scalar.select]

/-! ## Masked sums of the log gates, taken in two parts -/

/-- A log gate and what its rounding leaves off (nothing) sum to the log gate. -/
theorem add_rest {x : EReal} (h : x ≤ 0) : x + (x - x) = x := by
  induction x with
  | bot => simp
  | top => exact absurd h (by simp)
  | coe x => rw [← EReal.coe_sub, ← EReal.coe_add]; simp

theorem masked (p : Fin 16 → Prop) [DecidablePred p] (l : Fin 16 → EReal) (hl : ∀ s, l s ≤ 0) :
    (∑ x, FloatOps.sitofp (F := Ideal) FTy.f32 (BitVec.setWidth 32 (if p x then 1#1 else 0#1)) * l x)
      + ∑ x, FloatOps.sitofp (F := Ideal) FTy.f32 (BitVec.setWidth 32 (if p x then 1#1 else 0#1)) * (l x - l x)
      = ∑ x, if p x then l x else 0 := by
  rw [← Finset.sum_add_distrib]
  refine Finset.sum_congr rfl fun x _ => ?_
  by_cases h : p x
  · rw [if_pos h, if_pos h]
    have e : (FloatOps.sitofp (F := Ideal) FTy.f32 (BitVec.setWidth 32 1#1) : EReal) = 1 := by
      show (((1 : ℤ) : ℝ) : EReal) = 1
      norm_num
    rw [e, one_mul, one_mul, add_rest (hl x)]
  · rw [if_neg h, if_neg h]
    have e : (FloatOps.sitofp (F := Ideal) FTy.f32 (BitVec.setWidth 32 0#1) : EReal) = 0 := by
      show (((0 : ℤ) : ℝ) : EReal) = 0
      norm_num
    rw [e, zero_mul, zero_mul, add_zero]

section block
variable (Q K L : FVec Ideal S16x512 .f32) (V : FVec Ideal S16x1024 .bf16) (A0 A1 : FVec Ideal S1x512x1024 .f32)
  (hL : ∀ r a, L (ix2 r a) ≤ 0)

theorem hi_apply (r : Fin 16) (a : Fin 512) : k0_pay10 (F := Ideal) L (ix2 r a) = L (ix2 r a) := by pointwise [k0_pay10]
theorem lo_apply (r : Fin 16) (a : Fin 512) : k0_pay11 (F := Ideal) L (ix2 r a) = L (ix2 r a) - L (ix2 r a) := by pointwise [k0_pay11, k0_pay10]

/-- The rows a point makes, before they are normalised, of the two old states. -/
abbrev rowsOf : FVec Ideal S16x1024 .f32 :=
  k0_pay24 (F := Ideal) (k0_pay13 Q L io0 io1 k0_pay7 3#32) (k0_pay15 Q K V L io0 io1 k0_pay7 3#32) k0_pay17
    (k0_pay19 Q L io0 io1 k0_pay7 3#32 A0) 0#32 A1
/-- The new state of the first sequence. -/
abbrev state0 : FVec Ideal S1x512x1024 .f32 :=
  k0_pay21 (F := Ideal) V (k0_pay10 L) (k0_pay11 L) (k0_pay14 K L io0 io1 k0_pay7 3#32) k0_pay16 k0_pay17 (k0_pay18 A0) 0#32
/-- The new state of the second sequence. -/
abbrev state1 : FVec Ideal S1x512x1024 .f32 :=
  k0_pay25 (F := Ideal) V (k0_pay10 L) (k0_pay11 L) (k0_pay14 K L io0 io1 k0_pay7 3#32) k0_pay16 (k0_pay22 A1) (k0_pay23 k0_pay17)
    (Scalar.ofBits .f32 0x00000000#32)

include hL

theorem cum_apply (r : Fin 16) (a : Fin 512) :
    k0_pay12 (F := Ideal) L io0 io1 k0_pay7 3#32 (ix2 r a) = Sample.bcum (fun s => L (ix2 s a)) r := by
  pointwise [k0_pay12, k0_pay10, k0_pay11]
  simp only [causal_apply]
  exact masked (fun x => r.val / 8 = x.val / 8 ∧ x ≤ r) _ fun s => hL s a

theorem qe_apply (r : Fin 16) (a : Fin 512) :
    k0_pay13 (F := Ideal) Q L io0 io1 k0_pay7 3#32 (ix2 r a) = Q (ix2 r a) * Ideal.exp (Sample.bcum (fun s => L (ix2 s a)) r) := by
  pointwise [k0_pay13]
  rw [cum_apply L hL]

theorem kd_apply (r : Fin 16) (a : Fin 512) :
    k0_pay14 (F := Ideal) K L io0 io1 k0_pay7 3#32 (ix2 r a)
      = K (ix2 r a) * Ideal.exp (Sample.btot (fun s => L (ix2 s a)) r - Sample.bcum (fun s => L (ix2 s a)) r) := by
  pointwise [k0_pay14]
  simp only [cum_apply L hL, same_apply, hi_apply, lo_apply]
  rw [masked (fun x => r.val / 8 = x.val / 8) _ fun s => hL s a]
  rfl

/-- The scores against the values: only a row's own sequence is left, up to and with the row. -/
theorem score_apply (n : Fin 2) (c : Fin 8) (b : Fin 1024) :
    k0_pay15 (F := Ideal) Q K V L io0 io1 k0_pay7 3#32 (ix2 (Sample.pos n c) b)
      = ∑ s : Fin 8, Sample.score (fun s a => Q (ix2 (Sample.pos n s) a)) (fun s a => K (ix2 (Sample.pos n s) a))
          (fun s a => L (ix2 (Sample.pos n s) a)) c s * V (ix2 (Sample.pos n s) b) := by
  pointwise [k0_pay15]
  simp only [qe_apply Q L hL, cum_apply L hL, causal_apply, Sample.pos_seq]
  rw [Sample.sum_mine n]
  · refine Finset.sum_congr rfl fun s _ => ?_
    simp only [Sample.pos_seq, Sample.pos_le, true_and, Sample.score, Sample.bcum_pos, select_if, zero_sub]
    by_cases h : s ≤ c
    · rw [if_pos h, if_pos h]
    · rw [if_neg h, if_neg h, zero_mul]
  · intro s hs
    rw [select_if, if_neg fun h => hs h.1.symm]

theorem old0_apply (r : Fin 16) (b : Fin 1024) :
    k0_pay19 (F := Ideal) Q L io0 io1 k0_pay7 3#32 A0 (ix2 r b)
      = ∑ a : Fin 512, (Q (ix2 r a) * Ideal.exp (Sample.bcum (fun s => L (ix2 s a)) r)) * A0 (ix3 0 a b) := by
  pointwise [k0_pay19, k0_pay18]
  simp only [qe_apply Q L hL]

/-- THE ROWS a point makes, before they are normalised, are each sequence's. -/
theorem rows_apply (n : Fin 2) (c : Fin 8) (b : Fin 1024) :
    rowsOf Q K L V A0 A1 (ix2 (Sample.pos n c) b)
      = Sample.outStep (fun s a => Q (ix2 (Sample.pos n s) a)) (fun s a => K (ix2 (Sample.pos n s) a)) (fun s a => L (ix2 (Sample.pos n s) a))
          (fun s b => V (ix2 (Sample.pos n s) b)) (fun a b => if n = 0 then A0 (ix3 0 a b) else A1 (ix3 0 a b)) c b := by
  unfold rowsOf
  pointwise [k0_pay24, k0_pay22]
  simp only [score_apply Q K L V hL, old0_apply Q L A0 hL, qe_apply Q L hL, first_apply, second_apply, Sample.pos_seq, Sample.outStep, Sample.bcum_pos]
  match n with
  | ⟨0, _⟩ => simp [Scalar.select, add_comm]
  | ⟨1, _⟩ => simp [Scalar.select, add_comm]

/-- The decay of sequence `n`: the sum of its own log gates. -/
theorem tot_apply (n : Fin 2) (p : Fin 16 → Prop) [DecidablePred p] (hp : ∀ s, p s ↔ s.val / 8 = n.val) (a : Fin 512) :
    (∑ s : Fin 16, (if p s then L (ix2 s a) else 0)) + (∑ s : Fin 16, if p s then L (ix2 s a) - L (ix2 s a) else 0)
      = Sample.tot fun s => L (ix2 (Sample.pos n s) a) := by
  rw [← Finset.sum_add_distrib]
  rw [Sample.sum_mine n]
  · refine Finset.sum_congr rfl fun s _ => ?_
    have h : p (Sample.pos n s) := (hp _).mpr (Sample.pos_seq n s)
    rw [if_pos h, if_pos h, add_rest (hL _ a)]
  · intro s hs
    have h : ¬p s := fun h => hs ((hp s).mp h)
    rw [if_neg h, if_neg h, add_zero]

/-- The products of the decayed keys with the values, cut down to sequence `n`. -/
theorem prod_apply (n : Fin 2) (p : Fin 16 → Prop) [DecidablePred p] (hp : ∀ s, p s ↔ s.val / 8 = n.val) (a : Fin 512) (b : Fin 1024) :
    (∑ s : Fin 16, if p s then (K (ix2 s a) * Ideal.exp (Sample.btot (fun s => L (ix2 s a)) s - Sample.bcum (fun s => L (ix2 s a)) s)) * V (ix2 s b) else 0)
      = ∑ s : Fin 8, (K (ix2 (Sample.pos n s) a)
          * Ideal.exp (Sample.tot (fun s => L (ix2 (Sample.pos n s) a)) - Sample.cum (fun s => L (ix2 (Sample.pos n s) a)) s)) * V (ix2 (Sample.pos n s) b) := by
  rw [Sample.sum_mine n]
  · refine Finset.sum_congr rfl fun s _ => ?_
    rw [if_pos ((hp _).mpr (Sample.pos_seq n s)), Sample.btot_pos, Sample.bcum_pos]
  · intro s hs
    exact if_neg fun h => hs ((hp s).mp h)

/-- THE STATE a point leaves, for its first sequence. -/
theorem state0_apply (a : Fin 512) (b : Fin 1024) :
    state0 K L V A0 (ix3 0 a b)
      = Sample.stateStep (fun s a => K (ix2 (Sample.pos 0 s) a)) (fun s a => L (ix2 (Sample.pos 0 s) a)) (fun s b => V (ix2 (Sample.pos 0 s) b))
          (fun a b => A0 (ix3 0 a b)) a b := by
  unfold state0
  pointwise [k0_pay21, k0_pay18, k0_pay16]
  simp only [dite_eq_ite, ite_self, kd_apply K L hL, hi_apply, lo_apply, first_apply, select_if]
  rw [tot_apply L hL 0 (fun s => s.val / 8 = 0) (fun _ => Iff.rfl), prod_apply K L V hL 0 (fun s => s.val / 8 = 0) (fun _ => Iff.rfl), mul_comm]
  rfl

/-- THE STATE a point leaves, for its second sequence. -/
theorem state1_apply (a : Fin 512) (b : Fin 1024) :
    state1 K L V A1 (ix3 0 a b)
      = Sample.stateStep (fun s a => K (ix2 (Sample.pos 1 s) a)) (fun s a => L (ix2 (Sample.pos 1 s) a)) (fun s b => V (ix2 (Sample.pos 1 s) b))
          (fun a b => A1 (ix3 0 a b)) a b := by
  unfold state1
  pointwise [k0_pay25, k0_pay22, k0_pay16]
  simp only [dite_eq_ite, ite_self, kd_apply K L hL, hi_apply, lo_apply, second_apply, select_if]
  rw [tot_apply L hL 1 (fun s => s.val / 8 = 1) (fun _ => Iff.rfl), prod_apply K L V hL 1 (fun s => s.val / 8 = 1) (fun _ => Iff.rfl), mul_comm]
  rfl

end block

end Cert.Kernel6Ideal.Block

end
-- ==== Proof.SampleKer.lean ====
/-
  What the sampled attention's kernel computes: its blocks at a grid point, of the argument arrays; the rows and the states
  its body makes of them; and the arrays it leaves, which hold the recurrence's (Proof/SampleMath.lean).
-/
module

public import Idealize.ShloMosaic.Lib.Pointwise
public import Idealize.ShloMosaic.Lib.Pipeline.ValueKit
public import Idealize.ShloMosaic.Lib.StableHlo.ReadAt
public import Idealize.ShloMosaic.Lib.StableHlo.RunRead
public import Idealize.ShloMosaic.Lib.Pipeline.ReadBack
public import Idealize.ShloMosaic.Lib.Pipeline.Covers
public import Idealize.ShloMosaic.Lib.Pipeline.Value
public import proofs.«01_k».proof.Proof.SampleBlock
public import proofs.«01_k».proof.Proof.Gen.Kernel6Ideal.Value

@[expose] public section

set_option maxRecDepth 16384

noncomputable section

namespace Cert.Kernel6Ideal.Block

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-! ## The arguments as launched, and the arrays the host prepares -/

abbrev argP : FVec Ideal S9216x12288 .bf16 := m ((c : Thread nD τ).loc main_arg0)
abbrev argG : FVec Ideal S9216x128 .f32 := m ((c : Thread nD τ).loc main_arg1)
abbrev argW : FVec Ideal S1x16x2048 .f32 := m ((c : Thread nD τ).loc main_arg2)
abbrev argB : FVec Ideal S1x2048 .f32 := m ((c : Thread nD τ).loc main_arg3)
abbrev argN : FVec Ideal S1x1024 .f32 := m ((c : Thread nD τ).loc main_arg4)
abbrev argS : FVec Ideal S1x128x4x512x1024 .f32 := m ((c : Thread nD τ).loc main_arg5)

/-- The gate weight, with rows of zeros under it. -/
theorem host_w (x : Fin 128) (y : Fin 2048) :
    (V m c main_v1 : FVec Ideal S128x2048 .f32) (ix2 x y) = if h : x.val < 16 then argW m c (ix3 0 ⟨x.val, h⟩ y) else (0 : EReal) := by
  unfold V
  simp only [List.flatten_cons, List.flatten_nil, List.append_nil, List.cons_append, List.nil_append]
  after_reads_at
  have z : FloatOps.sitofp (F := Ideal) FTy.f32 (0#32) = (0 : EReal) := by
    show (((0#32 : BitVec 32).toInt : ℝ) : EReal) = 0
    simp
  rw [z]
theorem host_b (y : Fin 2048) : (V m c main_v2 : FVec Ideal S1x1x2048 .f32) (ix3 0 0 y) = argB m c (ix2 0 y) := by
  unfold V
  simp only [List.flatten_cons, List.flatten_nil, List.append_nil, List.cons_append, List.nil_append]
  after_reads_at
theorem host_n (y : Fin 1024) : (V m c main_v3 : FVec Ideal S1x1x1024 .f32) (ix3 0 0 y) = argN m c (ix2 0 y) := by
  unfold V
  simp only [List.flatten_cons, List.flatten_nil, List.append_nil, List.cons_append, List.nil_append]
  after_reads_at

/-! ## A grid point's pair of sequences and head -/

theorem lt_N (t : Fin cfg0.N) : t.val < 256 := lt_of_lt_of_eq t.isLt N_0
/-- Sequence `n` of a point's pair. -/
def sq (t : Fin cfg0.N) (n : Fin 2) : Fin 128 := ⟨t.val / 4 * 2 + n.val, by have := lt_N t; omega⟩
def hd (t : Fin cfg0.N) : Fin 4 := ⟨t.val % 4, by omega⟩

theorem idx0 : ∀ t : Fin cfg0.N, win0_0.index t = ![512 + t.val / 4, t.val % 4] := by decide +kernel
theorem idx1 : ∀ t : Fin cfg0.N, win0_1.index t = ![512 + t.val / 4, 4 + t.val % 4] := by decide +kernel
theorem idx2 : ∀ t : Fin cfg0.N, win0_2.index t = ![512 + t.val / 4, 4 + t.val % 4] := by decide +kernel
theorem idx3 : ∀ t : Fin cfg0.N, win0_3.index t = ![512 + t.val / 4, 8 + t.val % 4] := by decide +kernel
theorem idx4 : ∀ t : Fin cfg0.N, win0_4.index t = ![512 + t.val / 4, 0] := by decide +kernel
theorem idx5 : ∀ t : Fin cfg0.N, win0_5.index t = ![0, t.val % 4] := by decide +kernel
theorem idx6 : ∀ t : Fin cfg0.N, win0_6.index t = ![0, 0, t.val % 4] := by decide +kernel
theorem idx7 : ∀ t : Fin cfg0.N, win0_7.index t = ![0, 0, 0] := by decide +kernel
theorem idx8 : ∀ t : Fin cfg0.N, win0_8.index t = ![0, t.val / 4, t.val % 4, 0, 0] := by decide +kernel
theorem idx9 : ∀ t : Fin cfg0.N, win0_9.index t = ![t.val / 4, t.val % 4] := by decide +kernel
theorem idx10 : ∀ t : Fin cfg0.N, win0_10.index t = ![t.val / 4, t.val % 4, 0, 0] := by decide +kernel

variable (t : Fin cfg0.N) (n : Fin 2)

theorem blk_q (s : Fin 8) (a : Fin 512) :
    (iblk m c 0 t : FVec Ideal S16x512 .bf16) (ix2 (Sample.pos n s) a) = argP m c (ix2 (Sample.row (sq t n) s) ⟨(hd t).val * 512 + a.val, by have := (hd t).isLt; omega⟩) := by
  blk_simp [iblk]
  entry_read
  blk_ext!
  all_goals simp [idx0, Sample.pos, Sample.row, sq, hd]
  all_goals omega
theorem blk_k (s : Fin 8) (a : Fin 512) :
    (iblk m c 1 t : FVec Ideal S16x512 .bf16) (ix2 (Sample.pos n s) a) = argP m c (ix2 (Sample.row (sq t n) s) ⟨2048 + ((hd t).val * 512 + a.val), by have := (hd t).isLt; omega⟩) := by
  blk_simp [iblk]
  entry_read
  blk_ext!
  all_goals simp [idx1, Sample.pos, Sample.row, sq, hd]
  all_goals omega
theorem blk_v (s : Fin 8) (b : Fin 1024) :
    (iblk m c 2 t : FVec Ideal S16x1024 .bf16) (ix2 (Sample.pos n s) b) = Sample.val (argP m c) (sq t n) (hd t) s b := by
  unfold Sample.val
  blk_simp [iblk]
  entry_read
  blk_ext!
  all_goals simp [idx2, Sample.pos, Sample.row, sq, hd]
  all_goals omega
theorem blk_r (s : Fin 8) (b : Fin 1024) :
    (iblk m c 3 t : FVec Ideal S16x1024 .bf16) (ix2 (Sample.pos n s) b) = Sample.rec (argP m c) (sq t n) (hd t) s b := by
  unfold Sample.rec
  blk_simp [iblk]
  entry_read
  blk_ext!
  all_goals simp [idx3, Sample.pos, Sample.row, sq, hd]
  all_goals omega
theorem blk_g (s : Fin 8) (x : Fin 128) :
    (iblk m c 4 t : FVec Ideal S16x128 .f32) (ix2 (Sample.pos n s) x) = argG m c (ix2 (Sample.row (sq t n) s) x) := by
  blk_simp [iblk]
  entry_read
  blk_ext!
  all_goals simp [idx4, Sample.pos, Sample.row, sq]
  all_goals omega
theorem blk_w (x : Fin 128) (a : Fin 512) :
    (iblk m c 5 t : FVec Ideal S128x512 .f32) (ix2 x a)
      = if h : x.val < 16 then argW m c (ix3 0 ⟨x.val, h⟩ ⟨(hd t).val * 512 + a.val, by have := (hd t).isLt; omega⟩) else (0 : EReal) := by
  refine Eq.trans ?_ (host_w m c x ⟨(hd t).val * 512 + a.val, by have := (hd t).isLt; omega⟩)
  blk_simp [iblk]
  blk_ext!
  all_goals simp [idx5, hd]
theorem blk_b (a : Fin 512) :
    (iblk m c 6 t : FVec Ideal S1x1x512 .f32) (ix3 0 0 a) = argB m c (ix2 0 ⟨(hd t).val * 512 + a.val, by have := (hd t).isLt; omega⟩) := by
  refine Eq.trans ?_ (host_b m c ⟨(hd t).val * 512 + a.val, by have := (hd t).isLt; omega⟩)
  blk_simp [iblk]
  blk_ext!
  all_goals simp [idx6, hd]
theorem blk_n (b : Fin 1024) :
    (iblk m c 7 t : FVec Ideal S1x1x1024 .f32) (ix3 0 0 b) = argN m c (ix2 0 b) := by
  refine Eq.trans ?_ (host_n m c b)
  blk_simp [iblk]
  blk_ext!
  all_goals simp [idx7]
theorem blk_s (a : Fin 512) (b : Fin 1024) :
    (iblk m c 8 t : FVec Ideal S1x2x1x512x1024 .f32) (ix5 0 n 0 a b) = Sample.old (argS m c) (sq t n) (hd t) a b := by
  unfold Sample.old
  blk_simp [iblk]
  entry_read
  blk_ext!
  all_goals simp [idx8, sq, hd]

/-! ## The point's queries, keys, values and log gates -/

abbrev bQ : FVec Ideal S16x512 .f32 := k0_pay4 (F := Ideal) (iblk m c 0 t)
abbrev bK : FVec Ideal S16x512 .f32 := k0_pay5 (F := Ideal) (iblk m c 1 t)
abbrev bL : FVec Ideal S16x512 .f32 := k0_pay6 (F := Ideal) (iblk m c 4 t) (iblk m c 5 t) (iblk m c 6 t)
/-- The state the scratch starts from. -/
abbrev bS : FVec Ideal S2x512x1024 .f32 := k0_pay3 (F := Ideal) (iblk m c 8 t)

theorem bQ_eq (s : Fin 8) (a : Fin 512) : bQ m c t (ix2 (Sample.pos n s) a) = Sample.qry (argP m c) (sq t n) (hd t) s a := by
  rw [bQ, pay4_apply, blk_q]; rfl
theorem bK_eq (s : Fin 8) (a : Fin 512) : bK m c t (ix2 (Sample.pos n s) a) = Sample.key (argP m c) (sq t n) (hd t) s a := by
  rw [bK, pay5_apply, blk_k]; rfl
theorem bL_nonpos (r : Fin 16) (a : Fin 512) : bL m c t (ix2 r a) ≤ 0 := by
  rw [bL, pay6_apply]
  exact Gla.logGate_nonpos _
theorem bS_eq (a : Fin 512) (b : Fin 1024) : bS m c t (ix3 n a b) = Sample.old (argS m c) (sq t n) (hd t) a b := by
  rw [bS, pay3_apply, blk_s]

/-- A sum over 128 lanes whose last 112 are zero. -/
theorem sum_lanes (f : (x : Fin 128) → x.val < 16 → EReal) (g : Fin 128 → EReal) :
    (∑ x : Fin 128, g x * (if h : x.val < 16 then f x h else 0)) = ∑ x : Fin 16, g ⟨x.val, by omega⟩ * f ⟨x.val, by omega⟩ x.isLt := by
  rw [Fin.sum_univ_add (a := 16) (b := 112)]
  rw [Finset.sum_eq_zero (s := (Finset.univ : Finset (Fin 112))), add_zero]
  · refine Finset.sum_congr rfl fun x _ => ?_
    rw [dif_pos (show (Fin.castAdd 112 x).val < 16 from x.isLt)]
    rfl
  · intro x _
    rw [dif_neg (by simp), mul_zero]

theorem bL_eq (s : Fin 8) (a : Fin 512) :
    bL m c t (ix2 (Sample.pos n s) a) = Sample.gate (argG m c) (argW m c) (argB m c) (sq t n) (hd t) s a := by
  rw [bL, pay6_apply, blk_b]
  simp only [blk_g, blk_w]
  rw [sum_lanes (fun x h => argW m c (ix3 0 ⟨x.val, h⟩ ⟨(hd t).val * 512 + a.val, by have := (hd t).isLt; omega⟩))
    (fun x => argG m c (ix2 (Sample.row (sq t n) s) x))]
  rfl

/-! ## What a point leaves -/

/-- One sequence's part of the scratch. -/
abbrev part (n : Fin 2) (S : FVec Ideal S2x512x1024 .f32) : FVec Ideal S1x512x1024 .f32 := fun i => S (ix3 n (i 1) (i 2))

/-! The scratch read back: one sequence's part of what was filled in, and the whole after each part is written anew. -/

section scratch

/-- The whole scratch, and each sequence's part. -/
abbrev boxW : Rect S2x512x1024 := Rect.unit ![0, 0, 0] S2x512x1024.size inb_S2x512x1024_S2x512x1024_0_0_0
abbrev box0 : Rect S2x512x1024 := Rect.unit ![0, 0, 0] S1x512x1024.size inb_S2x512x1024_S1x512x1024_0_0_0
abbrev box1 : Rect S2x512x1024 := Rect.unit ![1, 0, 0] S1x512x1024.size inb_S2x512x1024_S1x512x1024_1_0_0

theorem emb_whole (y : S2x512x1024.Idx) : boxW.emb y = y := by
  funext k
  refine Fin.ext ?_
  fin_cases k
  · exact (show 0 + 1 * (y 0).val = (y 0).val by omega)
  · exact (show 0 + 1 * (y 1).val = (y 1).val by omega)
  · exact (show 0 + 1 * (y 2).val = (y 2).val by omega)
theorem emb_first (y : S1x512x1024.Idx) : box0.emb y = (ix3 0 (y 1) (y 2) : S2x512x1024.Idx) := by
  have : (y 0).val < 1 := (y 0).isLt
  funext k
  refine Fin.ext ?_
  fin_cases k
  · exact (show 0 + 1 * (y 0).val = 0 by omega)
  · exact (show 0 + 1 * (y 1).val = (y 1).val by omega)
  · exact (show 0 + 1 * (y 2).val = (y 2).val by omega)
theorem emb_second (y : S1x512x1024.Idx) : box1.emb y = (ix3 1 (y 1) (y 2) : S2x512x1024.Idx) := by
  have : (y 0).val < 1 := (y 0).isLt
  funext k
  refine Fin.ext ?_
  fin_cases k
  · exact (show 1 + 1 * (y 0).val = 1 by omega)
  · exact (show 0 + 1 * (y 1).val = (y 1).val by omega)
  · exact (show 0 + 1 * (y 2).val = (y 2).val by omega)
theorem first_off : LoadRect.disj box1 box0.toLoadRect = true := by decide
theorem second_off : LoadRect.disj box0 box1.toLoadRect = true := by decide

variable {κ : Kind} {sp : Space} (v : View sig κ sp S2x512x1024 .f32) (Z : FVec Ideal S2x512x1024 .f32) (X Y : FVec Ideal S1x512x1024 .f32)

/-- What stores leave in the scratch. -/
abbrev left (L : List (View.Piece (Elt Ideal) S2x512x1024 .f32)) : FVec Ideal S2x512x1024 .f32 := View.canon L

theorem left_emb (r : Rect S2x512x1024) (w : r.shape.Idx → Elt Ideal .f32) (L : List (View.Piece (Elt Ideal) S2x512x1024 .f32)) (y : r.shape.Idx) :
    left (⟨r, w⟩ :: L) (r.emb y) = w y := View.canon_cons_emb r w L y

theorem left_fill (y : S2x512x1024.Idx) : left [⟨boxW, Z⟩] y = Z y := by
  have h := left_emb boxW Z [] y
  rwa [emb_whole] at h

theorem read_at (L : List (View.Piece (Elt Ideal) S2x512x1024 .f32)) (r : Rect S2x512x1024) (y : r.shape.Idx) :
    v.readCov (Val := Elt Ideal) L r.toLoadRect y = left L (r.emb y) := congrFun (View.readCov_eq_canon' v L r.toLoadRect) y

theorem read_first : v.readCov (Val := Elt Ideal) [⟨boxW, Z⟩] box0.toLoadRect = part 0 Z := by
  funext y
  rw [read_at, emb_first, left_fill]

theorem read_second : v.readCov (Val := Elt Ideal) [⟨box0, X⟩, ⟨boxW, Z⟩] box1.toLoadRect = part 1 Z := by
  rw [View.readCov_skip (h := second_off)]
  funext y
  rw [read_at, emb_second, left_fill]

theorem read_both (n : Fin 2) (a : Fin 512) (b : Fin 1024) :
    (v.readCov (Val := Elt Ideal) [⟨box1, Y⟩, ⟨box0, X⟩, ⟨boxW, Z⟩] boxW.toLoadRect : FVec Ideal S2x512x1024 .f32) (ix3 n a b)
    = if n = 0 then X (ix3 0 a b) else Y (ix3 0 a b) := by
  refine (read_at v _ boxW (ix3 n a b : S2x512x1024.Idx)).trans ?_
  rw [emb_whole]
  match n with
  | 0 =>
    have h := left_emb box0 X [⟨boxW, Z⟩] (ix3 0 a b : S1x512x1024.Idx)
    have h' : left (⟨box1, Y⟩ :: ⟨box0, X⟩ :: [⟨boxW, Z⟩]) (box0.emb (ix3 0 a b : S1x512x1024.Idx))
        = left (⟨box0, X⟩ :: [⟨boxW, Z⟩]) (box0.emb (ix3 0 a b : S1x512x1024.Idx)) :=
      View.canon_cons_of_not_mem _ _ (LoadRect.idx_not_mem_of_disj first_off (ix3 0 a b : S1x512x1024.Idx))
    rw [h, emb_first] at h'
    exact h'
  | 1 =>
    have h := left_emb box1 Y [⟨box0, X⟩, ⟨boxW, Z⟩] (ix3 0 a b : S1x512x1024.Idx)
    rw [emb_second] at h
    exact h

end scratch

/-- The block of rows a point leaves. -/
theorem outs_rows : (outsAt0 m c t).1
    = k0_pay1 (F := Ideal) (k0_pay26 (rowsOf (bQ m c t) (bK m c t) (bL m c t) (iblk m c 2 t) (part 0 (bS m c t)) (part 1 (bS m c t))) (iblk m c 7 t))
        (k0_pay27 (iblk m c 3 t)) (k0_pay28 (iblk m c 3 t)) := by
  unfold outsAt0
  frame_out
  rw [read_first, read_second]

/-- The states a point leaves. -/
theorem outs_state (a : Fin 512) (b : Fin 1024) : (outsAt0 m c t).2 (ix4 n 0 a b)
    = if n = 0 then state0 (bK m c t) (bL m c t) (iblk m c 2 t) (part 0 (bS m c t)) (ix3 0 a b)
      else state1 (bK m c t) (bL m c t) (iblk m c 2 t) (part 1 (bS m c t)) (ix3 0 a b) := by
  unfold outsAt0
  frame_out
  rw [read_first, read_second, pay2_apply, read_both]

/-! ## The arrays the kernel leaves -/

theorem out_block (s : Fin 8) (b : Fin 1024) : (outsAt0 m c t).1 (ix2 (Sample.pos n s) b)
    = Sample.out (argP m c) (argG m c) (argW m c) (argB m c) (argN m c) (argS m c) (sq t n) (hd t) s b := by
  rw [outs_rows, finish_apply]
  simp only [rows_apply (bQ m c t) (bK m c t) (bL m c t) _ _ _ (bL_nonpos m c t), bQ_eq, bK_eq, bL_eq, blk_v, blk_r, blk_n]
  unfold Sample.out Sample.rows
  congr 1
  funext b
  congr 1
  funext a b
  match n with
  | 0 => exact bS_eq m c t 0 a b
  | 1 => exact bS_eq m c t 1 a b

theorem state_block (a : Fin 512) (b : Fin 1024) : (outsAt0 m c t).2 (ix4 n 0 a b)
    = Sample.st (argP m c) (argG m c) (argW m c) (argB m c) (argS m c) (sq t n) (hd t) a b := by
  rw [outs_state]
  unfold Sample.st
  match n with
  | 0 =>
    rw [if_pos rfl, state0_apply _ _ _ _ (bL_nonpos m c t)]
    simp only [bK_eq, bL_eq, blk_v]
    congr 1
    funext a b
    exact bS_eq m c t 0 a b
  | 1 =>
    rw [if_neg (by decide), state1_apply _ _ _ _ (bL_nonpos m c t)]
    simp only [bK_eq, bL_eq, blk_v]
    congr 1
    funext a b
    exact bS_eq m c t 1 a b

/-- The rows, of the arguments. -/
def arr9 (m : (ℓ : Loc nD τ sig) → Buf (Elt Ideal) ℓ) (c : Dev nD) : FVec Ideal S1024x4096 .bf16 := fun i =>
  Sample.out (argP m c) (argG m c) (argW m c) (argB m c) (argN m c) (argS m c) ⟨(i 0).val / 8, by have : (i 0).val < 1024 := (i 0).isLt; omega⟩
    ⟨(i 1).val / 1024, by have : (i 1).val < 4096 := (i 1).isLt; omega⟩ ⟨(i 0).val % 8, by omega⟩ ⟨(i 1).val % 1024, by omega⟩

/-- The states, of the arguments. -/
def arr10 (m : (ℓ : Loc nD τ sig) → Buf (Elt Ideal) ℓ) (c : Dev nD) : FVec Ideal S128x4x512x1024 .f32 := fun i =>
  Sample.st (argP m c) (argG m c) (argW m c) (argB m c) (argS m c) (i 0) (i 1) (i 2) (i 3)

theorem array9 : (dats m 0 c).arrAt 9 cfg0.N = arr9 m c := by
  refine (dats m 0 c).arrAt_eq_of_covers 9 _ (by decide +kernel) fun t hf y => ?_
  blk_simp
  rw [after0_9]
  obtain ⟨r, b, rfl⟩ : ∃ (r : Fin 16) (b : Fin 1024), y = ix2 r b := ⟨y 0, y 1, funext fun k => by fin_cases k <;> rfl⟩
  obtain ⟨n, s, rfl⟩ : ∃ (n : Fin 2) (s : Fin 8), r = Sample.pos n s := ⟨_, _, Sample.pos_cases r⟩
  have hq := (sq t n).isLt
  have e : (win0_9.blk t).view.emb (ix2 (Sample.pos n s) b)
      = ix2 (⟨(sq t n).val * 8 + s.val, by omega⟩ : Fin 1024)
          (⟨(hd t).val * 1024 + b.val, by have := (hd t).isLt; omega⟩ : Fin 4096) := by
    have i0 : win0_9.index t 0 = t.val / 4 := congrFun (idx9 t) 0
    have i1 : win0_9.index t 1 = t.val % 4 := congrFun (idx9 t) 1
    blk_ext!
    all_goals simp only [i0, i1, sq, hd, Sample.pos]
    all_goals omega
  refine (out_block m c t n s b).trans ?_
  rw [e]
  have hh := (hd t).isLt
  have hr := s.isLt
  have hb' := b.isLt
  unfold arr9
  congr 1 <;> exact Fin.ext (by show _ = (_ : ℕ); simp [ix2]; omega)

theorem array10 : (dats m 0 c).arrAt 10 cfg0.N = arr10 m c := by
  refine (dats m 0 c).arrAt_eq_of_covers 10 _ (by decide +kernel) fun t hf y => ?_
  blk_simp
  rw [after0_10]
  obtain ⟨n, a, b, rfl⟩ : ∃ (n : Fin 2) (a : Fin 512) (b : Fin 1024), y = ix4 n 0 a b :=
    ⟨y 0, y 2, y 3, funext fun k => by fin_cases k <;> first | rfl | exact Subsingleton.elim (α := Fin 1) _ _⟩
  have e : (win0_10.blk t).view.emb (ix4 n 0 a b) = ix4 (sq t n) (hd t) a b := by
    have i0 : win0_10.index t 0 = t.val / 4 := congrFun (idx10 t) 0
    have i1 : win0_10.index t 1 = t.val % 4 := congrFun (idx10 t) 1
    have i2 : win0_10.index t 2 = 0 := congrFun (idx10 t) 2
    have i3 : win0_10.index t 3 = 0 := congrFun (idx10 t) 3
    blk_ext!
    all_goals simp [i0, i1, i2, i3, sq, hd]
  refine (state_block m c t n a b).trans ?_
  rw [e]
  rfl

end Cert.Kernel6Ideal.Block

end
-- ==== Proof.SampleRef.lean ====
/-
  What the reference of the sampled attention computes, read at an index: its state and its rows are the recurrence's
  (Proof/SampleMath.lean).  The two long terms its run leaves are first named piece by piece.
-/
module

public import Idealize.ShloMosaic.Lib.Pointwise
public import proofs.«01_k».proof.Proof.SampleMath
public import proofs.«01_k».proof.Proof.Gen.Reference6Ideal.Run

@[expose] public section

set_option maxRecDepth 16384

noncomputable section

namespace Cert.Reference6Ideal.Rows

open Cert.Reference6Ideal Cert.Reference6Ideal.Gen Cert.Reference6Ideal.Value Idealize.ShloMosaic Idealize.ShloMosaic.TcCoe Idealize.SL.Sem

/-! ## A running sum along the third axis -/

theorem foldl_add {M : Type*} [AddCommMonoid M] {ι : Type*} (g : ι → M) (L : List ι) (v : M) :
    L.foldl (fun r n => r + g n) v = v + (L.map g).sum := by
  induction L generalizing v with
  | nil => simp
  | cons a L ih => rw [List.foldl_cons, ih, List.map_cons, List.sum_cons, add_assoc]

/-- The window positions that end at row `c`, those before row 0 left out, are the rows up to `c`. -/
theorem sum_prefix {M : Type*} [AddCommMonoid M] (f : Fin 8 → M) (c : Fin 8) :
    (∑ w : Fin 8, if h : 7 ≤ c.val + w.val then f ⟨c.val + w.val - 7, by omega⟩ else 0) = ∑ s : Fin 8, if s ≤ c then f s else 0 := by
  refine Fintype.sum_equiv (Equiv.addRight (c + 1)) _ _ fun w => ?_
  have hval : ((Equiv.addRight (c + 1)) w).val = (w.val + (c.val + 1) % 8) % 8 := by
    show (w + (c + 1)).val = _
    rw [Fin.val_add, Fin.val_add]
    rfl
  have hw := w.isLt
  have hc := c.isLt
  by_cases h : 7 ≤ c.val + w.val
  · have e : ((Equiv.addRight (c + 1)) w) = ⟨c.val + w.val - 7, by omega⟩ := Fin.ext (by rw [hval]; show _ = c.val + w.val - 7; omega)
    rw [dif_pos h, e]
    exact (if_pos (show c.val + w.val - 7 ≤ c.val by omega)).symm
  · rw [dif_neg h, if_neg]
    intro hle
    have : ((Equiv.addRight (c + 1)) w).val ≤ c.val := hle
    omega

theorem cumsum_apply (x : FVec Ideal S128x4x8x512 .f32) (z : FVec Ideal S_ .f32) (hz : ∀ i, z i = (0 : EReal))
    (h : S128x4x8x512.ReduceWindows ![1, 1, 8, 1] ![1, 1, 1, 1] ![0, 0, 7, 0] ![0, 0, 0, 0] S128x4x8x512) (hu : 0 < S_.numel)
    (bb : Fin 128) (hh : Fin 4) (c : Fin 8) (a : Fin 512) :
    Host.reduceWindowAdd ![1, 1, 8, 1] ![1, 1, 1, 1] ![0, 0, 7, 0] ![0, 0, 0, 0] x z h hu (ix4 bb hh c a)
      = Sample.cum (fun s => x (ix4 bb hh s a)) c := by
  unfold Host.reduceWindowAdd
  rw [Ideal.hostReduceWindowAdd_def, hz]
  unfold Ideal.hostReduceWindowAdd Host.reduceWindow
  dsimp only
  rw [foldl_add, zero_add, ← Fin.sum_univ_def]
  refine (Fintype.sum_equiv (Shape.rowMajor (⟨4, ![1, 1, 8, 1]⟩ : Shape)).symm _
    (fun w : (⟨4, ![1, 1, 8, 1]⟩ : Shape).Idx =>
      if h : 7 ≤ c.val + (w 2).val then x (ix4 bb hh ⟨c.val + (w 2).val - 7, by have : (w 2).val < 8 := (w 2).isLt; omega⟩ a) else (0 : EReal))
    fun i => ?_).trans ?_
  · set w := (Shape.rowMajor (⟨4, ![1, 1, 8, 1]⟩ : Shape)).symm i
    have h0 : (w 0).val < 1 := (w 0).isLt
    have h1 : (w 1).val < 1 := (w 1).isLt
    have h2 : (w 2).val < 8 := (w 2).isLt
    have h3 : (w 3).val < 1 := (w 3).isLt
    have hc := c.isLt
    by_cases hcw : 7 ≤ c.val + (w 2).val
    · rw [dif_pos hcw, dif_pos]
      · refine congrArg x (funext fun p => Fin.ext ?_)
        match p with
        | ⟨0, _⟩ => show bb.val * 1 + ((w 0).val - 0) = bb.val; omega
        | ⟨1, _⟩ => show hh.val * 1 + ((w 1).val - 0) = hh.val; omega
        | ⟨2, _⟩ => show c.val * 1 + (w 2).val - 7 = c.val + (w 2).val - 7; omega
        | ⟨3, _⟩ => show a.val * 1 + ((w 3).val - 0) = a.val; omega
      · intro p
        match p with
        | ⟨0, _⟩ => show 0 ≤ bb.val * 1 + (w 0).val ∧ bb.val * 1 + (w 0).val - 0 < 128; omega
        | ⟨1, _⟩ => show 0 ≤ hh.val * 1 + (w 1).val ∧ hh.val * 1 + (w 1).val - 0 < 4; omega
        | ⟨2, _⟩ => show 7 ≤ c.val * 1 + (w 2).val ∧ c.val * 1 + (w 2).val - 7 < 8; omega
        | ⟨3, _⟩ => show 0 ≤ a.val * 1 + (w 3).val ∧ a.val * 1 + (w 3).val - 0 < 512; omega
    · rw [dif_neg hcw, dif_neg]
      intro hin
      have h2 : 7 ≤ c.val * 1 + (w 2).val := (hin 2).1
      omega
  · rw [sum_idx4]
    simp only [Fin.sum_univ_one]
    unfold Sample.cum
    rw [← sum_prefix]
    rfl

/-! ## The pieces of the results' terms -/

section pieces
variable (P : FVec Ideal S9216x12288 .bf16) (G : FVec Ideal S9216x128 .f32) (W : FVec Ideal S1x16x2048 .f32)
  (B : FVec Ideal S1x2048 .f32) (N : FVec Ideal S1x1024 .f32) (S0 : FVec Ideal S1x128x4x512x1024 .f32)

/-- Minus the pre-activation of the log gates. -/
def pre : FVec Ideal S128x8x2048 .f32 :=
  Host.negf (addf (Host.dotGeneral dot_S128x8x16_S16x2048_S128x8x2048_2_0_01_1_n_n none (shapeCast _ (extractStridedSlice S1024x16 ![8192, 0] G slices_S9216x128_S1024x16_8192_0) shapeCasts_S1024x16_S128x8x16) (shapeCast _ W shapeCasts_S1x16x2048_S16x2048)) (broadcastInDim S128x8x2048 ![0, 1, 2] bcast_S1x1x2048_S128x8x2048_0_1_2 (broadcastInDim S1x1x2048 ![2] bcast_S2048_S1x1x2048_2 (shapeCast _ B shapeCasts_S1x2048_S2048))))
/-- Zeros of that shape. -/
def zeros : FVec Ideal S128x8x2048 .f32 := broadcastInDim S128x8x2048 ![] bcast_S_S128x8x2048 (constant S_ .f32 0x00000000#32)
/-- The log gates, by sequence and head. -/
def gates : FVec Ideal S128x4x8x512 .f32 :=
  transpose S128x4x8x512 [0, 2, 1, 3] (shapeCast _ (Host.divf (Host.negf (select (cmpf .une (subf (pre G W B) zeros) (subf (pre G W B) zeros)) (addf (pre G W B) zeros) (addf (maximumf (pre G W B) zeros) (Host.log1p (Host.exp (Host.negf (Host.absf (subf (pre G W B) zeros)))))))) (broadcastInDim S128x8x2048 ![] bcast_S_S128x8x2048 (constant S_ .f32 0x41800000#32))) shapeCasts_S128x8x2048_S128x8x4x512) transposes_S128x8x4x512_S128x4x8x512_0_2_1_3
/-- Their running sums. -/
def cums : FVec Ideal S128x4x8x512 .f32 :=
  Host.reduceWindowAdd ![1, 1, 8, 1] ![1, 1, 1, 1] ![0, 0, 7, 0] ![0, 0, 0, 0] (gates G W B) (broadcastInDim S_ ![] bcast_S_S_ (constant S_ .f32 0x00000000#32)) reduceWindows_S128x4x8x512_S128x4x8x512_w1s1p0_0_w1s1p0_0_w8s1p7_0_w1s1p0_0 h_S_
/-- Their whole sums. -/
def last : FVec Ideal S128x4x1x512 .f32 := extractStridedSlice S128x4x1x512 ![0, 0, 7, 0] (cums G W B) slices_S128x4x8x512_S128x4x1x512_0_0_7_0
/-- The scaled queries. -/
def qs : FVec Ideal S128x4x8x512 .f32 :=
  mulf (transpose S128x4x8x512 [0, 2, 1, 3] (shapeCast _ (extractStridedSlice S128x8x2048 ![0, 0, 0] (shapeCast _ (extf .f32 (extractStridedSlice S1024x8192 ![8192, 0] P slices_S9216x12288_S1024x8192_8192_0) bitsLt_bf16_f32) shapeCasts_S1024x8192_S128x8x8192) slices_S128x8x8192_S128x8x2048_0_0_0) shapeCasts_S128x8x2048_S128x8x4x512) transposes_S128x8x4x512_S128x4x8x512_0_2_1_3) (broadcastInDim S128x4x8x512 ![] bcast_S_S128x4x8x512 (constant S_ .f32 0x3D3504F3#32))
/-- The keys. -/
def ks : FVec Ideal S128x4x8x512 .f32 :=
  transpose S128x4x8x512 [0, 2, 1, 3] (shapeCast _ (extractStridedSlice S128x8x2048 ![0, 0, 2048] (shapeCast _ (extf .f32 (extractStridedSlice S1024x8192 ![8192, 0] P slices_S9216x12288_S1024x8192_8192_0) bitsLt_bf16_f32) shapeCasts_S1024x8192_S128x8x8192) slices_S128x8x8192_S128x8x2048_0_0_2048) shapeCasts_S128x8x2048_S128x8x4x512) transposes_S128x8x4x512_S128x4x8x512_0_2_1_3
/-- The values. -/
def vs : FVec Ideal S128x4x8x1024 .f32 :=
  transpose S128x4x8x1024 [0, 2, 1, 3] (shapeCast _ (extractStridedSlice S128x8x4096 ![0, 0, 4096] (shapeCast _ (extf .f32 (extractStridedSlice S1024x8192 ![8192, 0] P slices_S9216x12288_S1024x8192_8192_0) bitsLt_bf16_f32) shapeCasts_S1024x8192_S128x8x8192) slices_S128x8x8192_S128x8x4096_0_0_4096) shapeCasts_S128x8x4096_S128x8x4x1024) transposes_S128x8x4x1024_S128x4x8x1024_0_2_1_3
/-- The queries with their gates. -/
def qe : FVec Ideal S128x4x8x512 .f32 := mulf (qs P) (Host.exp (cums G W B))
/-- The causal mask. -/
def mask : IVec S8x8 1 := select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))
/-- The causal scores. -/
def scores : FVec Ideal S128x4x8x8 .f32 :=
  select (broadcastInDim S128x4x8x8 ![2, 3] bcast_S8x8_S128x4x8x8_2_3 mask) (Host.dotGeneral dot_S128x4x8x512_S128x4x8x512_S128x4x8x8_3_3_2_2_01_01 none (qe P G W B) (mulf (ks P) (Host.exp (Host.negf (cums G W B))))) (broadcastInDim S128x4x8x8 ![] bcast_S_S128x4x8x8 (id (constant S_ .f32 0x00000000#32)))
/-- The rows before they are normalised, by sequence, row and head. -/
def os : FVec Ideal S128x8x4x1024 .f32 :=
  transpose S128x8x4x1024 [0, 2, 1, 3] (addf (Host.dotGeneral dot_S128x4x8x512_S128x4x512x1024_S128x4x8x1024_3_2_2_3_01_01 none (qe P G W B) (shapeCast _ S0 shapeCasts_S1x128x4x512x1024_S128x4x512x1024)) (Host.dotGeneral dot_S128x4x8x8_S128x4x8x1024_S128x4x8x1024_3_2_2_3_01_01 none (scores P G W B) (vs P))) transposes_S128x4x8x1024_S128x8x4x1024_0_2_1_3
/-- The new states. -/
def newState : FVec Ideal S128x4x512x1024 .f32 :=
  addf (mulf (broadcastInDim S128x4x512x1024 ![0, 1, 2, 3] bcast_S128x4x512x1_S128x4x512x1024_0_1_2_3 (broadcastInDim S128x4x512x1 ![0, 1, 2] bcast_S128x4x512_S128x4x512x1_0_1_2 (shapeCast _ (Host.exp (last G W B)) shapeCasts_S128x4x1x512_S128x4x512))) (shapeCast _ S0 shapeCasts_S1x128x4x512x1024_S128x4x512x1024)) (Host.dotGeneral dot_S128x4x8x512_S128x4x8x1024_S128x4x512x1024_2_2_3_3_01_01 none (mulf (ks P) (Host.exp (subf (broadcastInDim S128x4x8x512 ![0, 1, 2, 3] bcast_S128x4x1x512_S128x4x8x512_0_1_2_3 (last G W B)) (cums G W B)))) (vs P))
/-- The normalised rows. -/
def normed : FVec Ideal S128x8x4x1024 .f32 :=
  mulf (mulf (os P G W B S0) (broadcastInDim S128x8x4x1024 ![0, 1, 2, 3] bcast_S128x8x4x1_S128x8x4x1024_0_1_2_3 (Host.rsqrt (addf (Host.divf (broadcastInDim S128x8x4x1 ![0, 1, 2] bcast_S128x8x4_S128x8x4x1_0_1_2 (Host.reduceAdd (mulf (os P G W B S0) (os P G W B S0)) (constant S_ .f32 0x00000000#32) reducesTo_S128x8x4x1024_S128x8x4_d3 h_S_)) (broadcastInDim S128x8x4x1 ![] bcast_S_S128x8x4x1 (constant S_ .f32 0x44800000#32))) (broadcastInDim S128x8x4x1 ![] bcast_S_S128x8x4x1 (constant S_ .f32 0x358637BD#32)))))) (broadcastInDim S128x8x4x1024 ![0, 1, 2, 3] bcast_S1x1x1x1024_S128x8x4x1024_0_1_2_3 (broadcastInDim S1x1x1x1024 ![3] bcast_S1024_S1x1x1x1024_3 (shapeCast _ N shapeCasts_S1x1024_S1024)))
/-- The output gates. -/
def rs : FVec Ideal S128x8x4096 .f32 := shapeCast _ (extf .f32 (extractStridedSlice S1024x4096 ![8192, 8192] P slices_S9216x12288_S1024x4096_8192_8192) bitsLt_bf16_f32) shapeCasts_S1024x4096_S128x8x4096
/-- The result. -/
def result : FVec Ideal S1024x4096 .bf16 :=
  truncf .bf16 (shapeCast _ (mulf (shapeCast _ (normed P G W B N S0) shapeCasts_S128x8x4x1024_S128x8x4096) (mulf (rs P) (Host.divf (broadcastInDim S128x8x4096 ![] bcast_S_S128x8x4096 (constant S_ .f32 0x3F800000#32)) (addf (broadcastInDim S128x8x4096 ![] bcast_S_S128x8x4096 (constant S_ .f32 0x3F800000#32)) (Host.exp (Host.negf (rs P))))))) shapeCasts_S128x8x4096_S1024x4096) bitsLt_bf16_f32

/-! ## The pieces at an index -/

variable (bb : Fin 128) (hh : Fin 4)

theorem row_eq (c : Fin 8) {h} : (⟨8192 + (bb.val * 8 + c.val), h⟩ : Fin 9216) = Sample.row bb c := rfl

theorem gates_apply (c : Fin 8) (a : Fin 512) : gates G W B (ix4 bb hh c a) = Sample.gate G W B bb hh c a := by
  pointwise [gates, pre, zeros]
  refine (congrArg (fun x => Ideal.div (-x) (Ideal.ofBits FTy.f32 0x41800000#32)) (if_neg (not_not.mpr rfl))).trans ?_
  refine (Gla.logGate_eq _).trans ?_
  simp only [row_eq]
  rfl

theorem cums_apply (c : Fin 8) (a : Fin 512) : cums G W B (ix4 bb hh c a) = Sample.cum (fun s => Sample.gate G W B bb hh s a) c := by
  unfold cums
  refine (cumsum_apply _ _ (fun i => ?_) _ _ bb hh c a).trans ?_
  · pointwise []
  · simp only [gates_apply]

theorem last_apply (a : Fin 512) : last G W B (ix4 bb hh 0 a) = Sample.tot (fun s => Sample.gate G W B bb hh s a) := by
  pointwise [last]
  refine (cums_apply G W B bb hh 7 a).trans ?_
  unfold Sample.cum Sample.tot
  exact Finset.sum_congr rfl fun r _ => if_pos (show r.val ≤ 7 by omega)

theorem qs_apply (c : Fin 8) (a : Fin 512) : qs P (ix4 bb hh c a) = Sample.qry P bb hh c a := by
  pointwise [qs]
  simp only [row_eq]
  rfl

theorem ks_apply (c : Fin 8) (a : Fin 512) : ks P (ix4 bb hh c a) = Sample.key P bb hh c a := by
  pointwise [ks]
  simp only [row_eq]
  rfl

theorem vs_apply (c : Fin 8) (b : Fin 1024) : vs P (ix4 bb hh c b) = Sample.val P bb hh c b := by
  pointwise [vs]
  simp only [row_eq]
  rfl

theorem qe_apply (c : Fin 8) (a : Fin 512) :
    qe P G W B (ix4 bb hh c a) = Sample.qry P bb hh c a * Ideal.exp (Sample.cum (fun s => Sample.gate G W B bb hh s a) c) := by
  pointwise [qe]
  rw [qs_apply, cums_apply]

theorem mask_apply (c r : Fin 8) : mask (ix2 c r) = if r ≤ c then 1#1 else 0#1 := by
  revert c r
  decide +kernel

/-- The word of zero. -/
theorem zero_word {x : EReal} : Scalar.select 0#1 x (constant (F := Ideal) S_ FTy.f32 0x00000000#32 ix0) = 0 := by
  show (constant (F := Ideal) S_ FTy.f32 0x00000000#32 ix0 : EReal) = 0
  pointwise []

theorem scores_apply (c s : Fin 8) :
    scores P G W B (ix4 bb hh c s) = Sample.score (Sample.qry P bb hh) (Sample.key P bb hh) (Sample.gate G W B bb hh) c s := by
  pointwise [scores]
  simp only [mask_apply, qe_apply, ks_apply, cums_apply, Sample.score]
  by_cases h : s ≤ c
  · simp [h, Scalar.select]
  · rw [if_neg h, if_neg h]
    exact zero_word

theorem os_apply (c : Fin 8) (b : Fin 1024) : os P G W B S0 (ix4 bb c hh b) = Sample.rows P G W B S0 bb hh c b := by
  pointwise [os]
  simp only [qe_apply, scores_apply, vs_apply]
  rfl

/-- THE NEW STATE. -/
theorem newState_apply (a : Fin 512) (b : Fin 1024) : newState P G W B S0 (ix4 bb hh a b) = Sample.st P G W B S0 bb hh a b := by
  pointwise [newState]
  simp only [last_apply, ks_apply, vs_apply, cums_apply]
  rfl

theorem normed_apply (c : Fin 8) (b : Fin 1024) :
    normed P G W B N S0 (ix4 bb c hh b)
      = Sample.rows P G W B S0 bb hh c b * Ideal.rsqrt (Ideal.div (∑ x, Sample.rows P G W B S0 bb hh c x * Sample.rows P G W B S0 bb hh c x)
          (Ideal.ofBits FTy.f32 1149239296#32) + Ideal.ofBits FTy.f32 897988541#32) * N (ix2 0 b) := by
  pointwise [normed]
  simp only [os_apply]

/-- THE RESULT. -/
theorem result_apply (c : Fin 8) (b : Fin 1024) (r : Fin 1024) (cc : Fin 4096)
    (hr : r.val = bb.val * 8 + c.val) (hc : cc.val = hh.val * 1024 + b.val) :
    result P G W B N S0 (ix2 r cc) = Sample.out P G W B N S0 bb hh c b := by
  pointwise [result, rs]
  have e2 : ∀ {h}, (⟨r.val / 8, h⟩ : Fin 128) = bb := fun {h} => Fin.ext (by show r.val / 8 = bb.val; omega)
  have e3 : ∀ {h}, (⟨cc.val / 1024, h⟩ : Fin 4) = hh := fun {h} => Fin.ext (by show cc.val / 1024 = hh.val; omega)
  have e4 : ∀ {h}, (⟨r.val % 8, h⟩ : Fin 8) = c := fun {h} => Fin.ext (by show r.val % 8 = c.val; omega)
  have e5 : ∀ {h}, (⟨cc.val % 1024, h⟩ : Fin 1024) = b := fun {h} => Fin.ext (by show cc.val % 1024 = b.val; omega)
  have e6 : ∀ {h}, (⟨8192 + r.val, h⟩ : Fin 9216) = Sample.row bb c := fun {h} => Fin.ext (by show 8192 + r.val = 8192 + (bb.val * 8 + c.val); omega)
  have e7 : ∀ {h}, (⟨8192 + cc.val, h⟩ : Fin 12288) = ⟨8192 + (hh.val * 1024 + b.val), by omega⟩ := fun {h} => Fin.ext (by show 8192 + cc.val = 8192 + (hh.val * 1024 + b.val); omega)
  simp only [e2, e3, e4, e5, e6, e7, normed_apply]
  rfl

end pieces

/-! ## The results of the run -/

variable (m : (ℓ : Loc nD τ sig) → Buf (Elt Ideal) ℓ) (c : Dev nD)

theorem res_rows : res_out0 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

theorem res_state : res_out1 (F := Ideal) m c
    = newState (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)) := rfl

end Cert.Reference6Ideal.Rows

end
-- ==== Proof.Finite.lean ====
/-
  What the precondition says over the extended reals: the queries, keys and values are real numbers.
-/
module

public import Idealize.ShloMosaic.Lib.Pointwise
public import proofs.«01_k».proof.Pre_finite_qkv
public import proofs.«01_k».proof.Proof.Spec

@[expose] public section

noncomputable section

namespace Cert.Pre_finite_qkv

open Idealize.ShloMosaic

theorem facts : Facts where
  slices_S9216x12288_S8192x8192_0_0 := by decide
  bitsLt_bf16_f32 := by decide
  bcast_S_S8192x8192 := by decide

theorem inf : Ideal.ofBits FTy.f32 0x7F800000#32 = (⊤ : EReal) := by
  simp [Ideal.ofBits, Ideal.ieee]

/-- An extended real whose absolute value is below ⊤ is a real number. -/
theorem real_of_abs {x : EReal} (h : max x (-x) < ⊤) : ∃ r : ℝ, x = (r : EReal) := by
  induction x with
  | bot => simp at h
  | top => simp at h
  | coe r => exact ⟨r, rfl⟩

theorem realQkv [Facts] (P : FVec Ideal S9216x12288 .bf16) (G : FVec Ideal S9216x128 .f32) (W : FVec Ideal S1x16x2048 .f32)
    (B : FVec Ideal S1x2048 .f32) (N : FVec Ideal S1x1024 .f32) (h : fn (F := Ideal) P G W B N = fun _ => 1#1) : Gla.RealQkv P := by
  intro i j hi hj
  have e := congrFun h (ix2 ⟨i.val, hi⟩ ⟨j.val, hj⟩)
  revert e
  pointwise [fn]
  rw [inf]
  intro e
  refine real_of_abs ?_
  by_contra hn
  have e' : decide (FloatOps.absf (F := Ideal) (φ := .f32) (P (ix2 i j)) < (⊤ : EReal)) = false := decide_eq_false hn
  rw [e'] at e
  exact absurd e (by decide)

end Cert.Pre_finite_qkv

end
-- ==== Proof.Block.lean ====
/-
  What the kernel's body computes at one grid point, read at an index: over the blocks of queries, keys, values and log
  gates, the state it leaves is `Gla.kState` and the rows it makes are `Gla.kOut` (Proof/GlaMath.lean).
-/
module

public import Idealize.ShloMosaic.Lib.Pointwise
public import proofs.«01_k».proof.Proof.GlaMath
public import proofs.«01_k».proof.Proof.Gen.KernelIdeal.Skeleton

@[expose] public section

set_option maxRecDepth 16384

noncomputable section

namespace Cert.KernelIdeal.Block

open Cert.KernelIdeal Cert.KernelIdeal.Gen Idealize.ShloMosaic Idealize.ShloMosaic.TcCoe

/-- The row numbers and the column numbers of a block of scores. -/
abbrev io0 : IVec S128x128 32 := iota .tc S128x128 32 [0] iota_S128x128_d0_w32
abbrev io1 : IVec S128x128 32 := iota .tc S128x128 32 [1] iota_S128x128_d1_w32

/-! ## The masks -/

/-- A row's chunk is its number shifted right by six. -/
theorem chunk_of : ∀ r : Fin 128, IntOp.shrsi ArithUnit.vector (BitVec.ofNat 32 r.val) 6#32 = BitVec.ofNat 32 (r.val / 64) := by
  decide +kernel

theorem eq_word (a b : Fin 128) :
    IntOp.cmpi CmpIPredicate.eq (BitVec.ofNat 32 (a.val / 64)) (BitVec.ofNat 32 (b.val / 64)) = if a.val / 64 = b.val / 64 then 1#1 else 0#1 := by
  have ha := a.isLt
  have hb := b.isLt
  show BitVec.ofBool (BitVec.ofNat 32 (a.val / 64) == BitVec.ofNat 32 (b.val / 64)) = _
  by_cases h : a.val / 64 = b.val / 64
  · simp [h]
  · rw [if_neg h, beq_eq_false_iff_ne.mpr]
    · rfl
    · intro e
      have := congrArg BitVec.toNat e
      rw [BitVec.toNat_ofNat, BitVec.toNat_ofNat] at this
      omega

theorem toInt_of_lt {n : ℕ} (h : n < 128) : (BitVec.ofNat 32 n).toInt = n := by
  rw [BitVec.toInt_eq_toNat_of_lt] <;> rw [BitVec.toNat_ofNat] <;> omega

theorem lt_word (a b : Fin 128) :
    IntOp.cmpi CmpIPredicate.slt (BitVec.ofNat 32 (a.val / 64)) (BitVec.ofNat 32 (b.val / 64)) = if a.val / 64 < b.val / 64 then 1#1 else 0#1 := by
  have ha := a.isLt
  have hb := b.isLt
  show BitVec.ofBool (decide ((BitVec.ofNat 32 (a.val / 64)).toInt < (BitVec.ofNat 32 (b.val / 64)).toInt)) = _
  rw [toInt_of_lt (by omega), toInt_of_lt (by omega)]
  have e : decide (((a.val / 64 : ℕ) : ℤ) < ((b.val / 64 : ℕ) : ℤ)) = decide (a.val / 64 < b.val / 64) := decide_eq_decide.mpr Nat.cast_lt
  rw [e]
  by_cases h : a.val / 64 < b.val / 64 <;> simp only [h, decide_true, decide_false, if_true, if_false] <;> rfl

theorem gt_word (a b : Fin 128) :
    IntOp.cmpi CmpIPredicate.sgt (BitVec.ofNat 32 (a.val / 64)) (BitVec.ofNat 32 (b.val / 64)) = if b.val / 64 < a.val / 64 then 1#1 else 0#1 :=
  lt_word b a

theorem le_word (a b : Fin 128) :
    IntOp.cmpi CmpIPredicate.sle (BitVec.ofNat 32 a.val) (BitVec.ofNat 32 b.val) = if a ≤ b then 1#1 else 0#1 := by
  have ha := a.isLt
  have hb := b.isLt
  show BitVec.ofBool (decide ((BitVec.ofNat 32 a.val).toInt ≤ (BitVec.ofNat 32 b.val).toInt)) = _
  rw [toInt_of_lt ha, toInt_of_lt hb]
  by_cases h : a ≤ b <;> simp [h]

/-- Rows of one chunk. -/
theorem same_apply (r s : Fin 128) : k0_pay8 io1 k0_pay7 6#32 (ix2 r s) = if r.val / 64 = s.val / 64 then 1#1 else 0#1 := by
  pointwise [k0_pay8, k0_pay7]
  rw [chunk_of, chunk_of, eq_word]

/-- … and not after. -/
theorem causal_apply (r s : Fin 128) :
    k0_pay9 io0 io1 k0_pay7 6#32 (ix2 r s) = if r.val / 64 = s.val / 64 ∧ s ≤ r then 1#1 else 0#1 := by
  pointwise [k0_pay9, k0_pay8, k0_pay7]
  rw [chunk_of, chunk_of, eq_word, le_word]
  by_cases h : r.val / 64 = s.val / 64 <;> by_cases h' : s ≤ r <;> simp [h, h', IntOp.andi]

/-- Rows of an earlier chunk. -/
theorem earlier_apply (r s : Fin 128) : k0_pay16 io0 io1 (ix2 r s) = if s.val / 64 < r.val / 64 then 1#1 else 0#1 := by
  pointwise [k0_pay16]
  rw [chunk_of, chunk_of, lt_word]

theorem earlier_word_apply (r s : Fin 128) :
    k0_pay18 io0 io1 (ix2 r s) = BitVec.setWidth 32 (if s.val / 64 < r.val / 64 then 1#1 else 0#1) := by
  pointwise [k0_pay18]
  rw [earlier_apply]

/-- Rows of a later chunk, as numbers. -/
theorem later_apply (r s : Fin 128) :
    k0_pay17 (F := Ideal) io0 io1 (ix2 r s) = (FloatOps.sitofp (F := Ideal) FTy.f32 (BitVec.setWidth 32 (if r.val / 64 < s.val / 64 then 1#1 else 0#1)) : EReal) := by
  pointwise [k0_pay17]
  rw [chunk_of, chunk_of, gt_word]

/-! ## Masked sums of the log gates, taken in two parts -/

/-- A log gate and what its rounding leaves off (nothing) sum to the log gate. -/
theorem add_rest {x : EReal} (h : x ≤ 0) : x + (x - x) = x := by
  induction x with
  | bot => simp
  | top => exact absurd h (by simp)
  | coe x => rw [← EReal.coe_sub, ← EReal.coe_add]; simp

theorem masked (p : Fin 128 → Prop) [DecidablePred p] (l : Fin 128 → EReal) (hl : ∀ s, l s ≤ 0) :
    (∑ x, FloatOps.sitofp (F := Ideal) FTy.f32 (BitVec.setWidth 32 (if p x then 1#1 else 0#1)) * l x)
      + ∑ x, FloatOps.sitofp (F := Ideal) FTy.f32 (BitVec.setWidth 32 (if p x then 1#1 else 0#1)) * (l x - l x)
      = ∑ x, if p x then l x else 0 := by
  rw [← Finset.sum_add_distrib]
  refine Finset.sum_congr rfl fun x _ => ?_
  by_cases h : p x
  · rw [if_pos h, if_pos h]
    have e : (FloatOps.sitofp (F := Ideal) FTy.f32 (BitVec.setWidth 32 1#1) : EReal) = 1 := by
      show (((1 : ℤ) : ℝ) : EReal) = 1
      norm_num
    rw [e, one_mul, one_mul, add_rest (hl x)]
  · rw [if_neg h, if_neg h]
    have e : (FloatOps.sitofp (F := Ideal) FTy.f32 (BitVec.setWidth 32 0#1) : EReal) = 0 := by
      show (((0 : ℤ) : ℝ) : EReal) = 0
      norm_num
    rw [e, zero_mul, zero_mul, add_zero]

section block
variable (Q K L : FVec Ideal S128x512 .f32) (V : FVec Ideal S128x1024 .bf16) (S : FVec Ideal S1x512x1024 .f32)
  (hL : ∀ r a, L (ix2 r a) ≤ 0)

theorem hi_apply (r : Fin 128) (a : Fin 512) : k0_pay10 (F := Ideal) L (ix2 r a) = L (ix2 r a) := by pointwise [k0_pay10]
theorem lo_apply (r : Fin 128) (a : Fin 512) : k0_pay11 (F := Ideal) L (ix2 r a) = L (ix2 r a) - L (ix2 r a) := by pointwise [k0_pay11, k0_pay10]
theorem old_apply (a : Fin 512) (b : Fin 1024) : k0_pay19 (F := Ideal) S (ix2 a b) = S (ix3 0 a b) := by pointwise [k0_pay19]

include hL

theorem cum_apply (r : Fin 128) (a : Fin 512) :
    k0_pay12 (F := Ideal) L io0 io1 k0_pay7 6#32 (ix2 r a) = Gla.kcum (fun s => L (ix2 s a)) r := by
  pointwise [k0_pay12, k0_pay10, k0_pay11]
  simp only [causal_apply]
  exact masked (fun x => r.val / 64 = x.val / 64 ∧ x ≤ r) _ fun s => hL s a

theorem qe_apply (r : Fin 128) (a : Fin 512) :
    k0_pay13 (F := Ideal) Q L io0 io1 k0_pay7 6#32 (ix2 r a) = Q (ix2 r a) * Ideal.exp (Gla.kcum (fun s => L (ix2 s a)) r) := by
  pointwise [k0_pay13]
  rw [cum_apply L hL]

theorem kd_apply (r : Fin 128) (a : Fin 512) :
    k0_pay14 (F := Ideal) K L io0 io1 k0_pay7 6#32 (ix2 r a)
      = K (ix2 r a) * Ideal.exp (Gla.ktot (fun s => L (ix2 s a)) r - Gla.kcum (fun s => L (ix2 s a)) r) := by
  pointwise [k0_pay14]
  simp only [cum_apply L hL, same_apply, hi_apply, lo_apply]
  rw [masked (fun x => r.val / 64 = x.val / 64) _ fun s => hL s a]
  rfl

theorem score_apply (r s : Fin 128) :
    k0_pay15 (F := Ideal) Q K L io0 io1 k0_pay7 6#32 (ix2 r s)
      = if r.val / 64 = s.val / 64 ∧ s ≤ r then
          ∑ a : Fin 512, (Q (ix2 r a) * Ideal.exp (Gla.kcum (fun s => L (ix2 s a)) r))
            * (K (ix2 s a) * Ideal.exp (0 - Gla.kcum (fun s => L (ix2 s a)) s)) else 0 := by
  pointwise [k0_pay15]
  simp only [qe_apply Q L hL, cum_apply L hL, causal_apply]
  by_cases h : r.val / 64 = s.val / 64 ∧ s ≤ r
  · rw [if_pos h, if_pos h]; rfl
  · rw [if_neg h, if_neg h]; rfl

/-- THE ROWS a point makes, before they are normalised. -/
theorem out_apply (r : Fin 128) (b : Fin 1024) :
    k0_pay20 (F := Ideal) Q V (k0_pay10 L) (k0_pay11 L) (k0_pay12 L io0 io1 k0_pay7 6#32) (k0_pay13 Q L io0 io1 k0_pay7 6#32)
        (k0_pay14 K L io0 io1 k0_pay7 6#32) (k0_pay15 Q K L io0 io1 k0_pay7 6#32) (k0_pay16 io0 io1) (k0_pay18 io0 io1) S (ix2 r b)
      = Gla.kOut (fun r a => Q (ix2 r a)) (fun r a => K (ix2 r a)) (fun r a => L (ix2 r a)) (fun r b => V (ix2 r b))
          (fun a b => S (ix3 0 a b)) r b := by
  pointwise [k0_pay20]
  simp only [qe_apply Q L hL, cum_apply L hL, kd_apply K L hL, score_apply Q K L hL, earlier_apply, earlier_word_apply,
    hi_apply, lo_apply, old_apply]
  have hm : ∀ a : Fin 512, _ := fun a => masked (fun x => x.val / 64 < r.val / 64) (fun s => L (ix2 s a)) fun s => hL s a
  simp only [hm]
  unfold Gla.kOut
  congr 1
  refine Finset.sum_congr rfl fun s _ => ?_
  by_cases h : s.val / 64 < r.val / 64
  · rw [if_pos h, if_pos h]; rfl
  · rw [if_neg h, if_neg h]; rfl

/-- THE STATE a point leaves. -/
theorem state_apply (a : Fin 512) (b : Fin 1024) :
    k0_pay21 (F := Ideal) V (k0_pay10 L) (k0_pay11 L) (k0_pay14 K L io0 io1 k0_pay7 6#32) (k0_pay17 io0 io1) S (ix3 0 a b)
      = Gla.kState (fun r a => K (ix2 r a)) (fun r a => L (ix2 r a)) (fun r b => V (ix2 r b)) (fun a b => S (ix3 0 a b)) a b := by
  pointwise [k0_pay21]
  simp only [dite_eq_ite, ite_self, kd_apply K L hL, later_apply, hi_apply, lo_apply, old_apply]
  have hm : ∀ x : Fin 128, _ := fun x => masked (fun y => x.val / 64 < y.val / 64) (fun s => L (ix2 s a)) fun s => hL s a
  simp only [hm]
  rw [← Finset.sum_add_distrib]
  simp only [add_rest (hL _ a)]
  rfl

end block

end Cert.KernelIdeal.Block

end
-- ==== Proof.KerInputs.lean ====
/-
  What the kernel's blocks hold at a point of its grid, of the argument arrays: the point's batch, head and pair of chunks,
  and each block's elements in those words.
-/
module

public import Idealize.ShloMosaic.Lib.Pointwise
public import Idealize.ShloMosaic.Lib.Pipeline.ValueKit
public import Idealize.ShloMosaic.Lib.StableHlo.ReadAt
public import Idealize.ShloMosaic.Lib.StableHlo.RunRead
public import proofs.«01_k».proof.Proof.Block
public import proofs.«01_k».proof.Proof.Spec
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arguments as launched, and the arrays the host prepares -/

abbrev argP : FVec Ideal S9216x12288 .bf16 := m ((c : Thread nD τ).loc main_arg0)
abbrev argG : FVec Ideal S9216x128 .f32 := m ((c : Thread nD τ).loc main_arg1)
abbrev argW : FVec Ideal S1x16x2048 .f32 := m ((c : Thread nD τ).loc main_arg2)
abbrev argB : FVec Ideal S1x2048 .f32 := m ((c : Thread nD τ).loc main_arg3)
abbrev argN : FVec Ideal S1x1024 .f32 := m ((c : Thread nD τ).loc main_arg4)

/-- The gate weight, with rows of zeros under it. -/
theorem host_w (x : Fin 128) (y : Fin 2048) :
    (V m c main_v1 : FVec Ideal S128x2048 .f32) (ix2 x y) = if h : x.val < 16 then argW m c (ix3 0 ⟨x.val, h⟩ y) else (0 : EReal) := by
  unfold V
  simp only [List.flatten_cons, List.flatten_nil, List.append_nil, List.cons_append, List.nil_append]
  after_reads_at
  have z : FloatOps.sitofp (F := Ideal) FTy.f32 (0#32) = (0 : EReal) := by
    show (((0#32 : BitVec 32).toInt : ℝ) : EReal) = 0
    simp
  rw [z]
theorem host_b (y : Fin 2048) : (V m c main_v2 : FVec Ideal S1x1x2048 .f32) (ix3 0 0 y) = argB m c (ix2 0 y) := by
  unfold V
  simp only [List.flatten_cons, List.flatten_nil, List.append_nil, List.cons_append, List.nil_append]
  after_reads_at
theorem host_n (y : Fin 1024) : (V m c main_v3 : FVec Ideal S1x1x1024 .f32) (ix3 0 0 y) = argN m c (ix2 0 y) := by
  unfold V
  simp only [List.flatten_cons, List.flatten_nil, List.append_nil, List.cons_append, List.nil_append]
  after_reads_at

/-! ## A grid point's batch, head and pair of chunks -/

theorem lt_N (t : Fin cfg0.N) : t.val < 256 := lt_of_lt_of_eq t.isLt N_0
def bat (t : Fin cfg0.N) : Fin 4 := ⟨t.val / 64, by have := lt_N t; omega⟩
def hd (t : Fin cfg0.N) : Fin 4 := ⟨t.val / 16 % 4, by omega⟩
def pr (t : Fin cfg0.N) : ℕ := t.val % 16
/-- Row `r` of a point's block, in the arrays. -/
def brow (t : Fin cfg0.N) (r : Fin 128) : Fin 9216 := ⟨(bat t).val * 2048 + pr t * 128 + r.val, by
  have := (bat t).isLt; unfold pr; omega⟩

theorem idx0 : ∀ t : Fin cfg0.N, win0_0.index t = ![t.val / 64 * 16 + t.val % 16, t.val / 16 % 4] := by decide +kernel
theorem idx1 : ∀ t : Fin cfg0.N, win0_1.index t = ![t.val / 64 * 16 + t.val % 16, 4 + t.val / 16 % 4] := by decide +kernel
theorem idx2 : ∀ t : Fin cfg0.N, win0_2.index t = ![t.val / 64 * 16 + t.val % 16, 4 + t.val / 16 % 4] := by decide +kernel
theorem idx3 : ∀ t : Fin cfg0.N, win0_3.index t = ![t.val / 64 * 16 + t.val % 16, 8 + t.val / 16 % 4] := by decide +kernel
theorem idx4 : ∀ t : Fin cfg0.N, win0_4.index t = ![t.val / 64 * 16 + t.val % 16, 0] := by decide +kernel
theorem idx5 : ∀ t : Fin cfg0.N, win0_5.index t = ![0, t.val / 16 % 4] := by decide +kernel
theorem idx6 : ∀ t : Fin cfg0.N, win0_6.index t = ![0, 0, t.val / 16 % 4] := by decide +kernel
theorem idx7 : ∀ t : Fin cfg0.N, win0_7.index t = ![0, 0, 0] := by decide +kernel

theorem blk_q (t : Fin cfg0.N) (r : Fin 128) (a : Fin 512) :
    (iblk m c 0 t : FVec Ideal S128x512 .bf16) (ix2 r a) = argP m c (ix2 (brow t r) ⟨(hd t).val * 512 + a.val, by have := (hd t).isLt; omega⟩) := by
  blk_simp [iblk]
  entry_read
  blk_ext!
  all_goals simp [idx0, brow, bat, hd, pr]
  all_goals omega
theorem blk_k (t : Fin cfg0.N) (r : Fin 128) (a : Fin 512) :
    (iblk m c 1 t : FVec Ideal S128x512 .bf16) (ix2 r a) = argP m c (ix2 (brow t r) ⟨2048 + ((hd t).val * 512 + a.val), by have := (hd t).isLt; omega⟩) := by
  blk_simp [iblk]
  entry_read
  blk_ext!
  all_goals simp [idx1, brow, bat, hd, pr]
  all_goals omega
theorem blk_v (t : Fin cfg0.N) (r : Fin 128) (b : Fin 1024) :
    (iblk m c 2 t : FVec Ideal S128x1024 .bf16) (ix2 r b) = argP m c (ix2 (brow t r) ⟨4096 + ((hd t).val * 1024 + b.val), by have := (hd t).isLt; omega⟩) := by
  blk_simp [iblk]
  entry_read
  blk_ext!
  all_goals simp [idx2, brow, bat, hd, pr]
  all_goals omega
theorem blk_r (t : Fin cfg0.N) (r : Fin 128) (b : Fin 1024) :
    (iblk m c 3 t : FVec Ideal S128x1024 .bf16) (ix2 r b) = argP m c (ix2 (brow t r) ⟨8192 + ((hd t).val * 1024 + b.val), by have := (hd t).isLt; omega⟩) := by
  blk_simp [iblk]
  entry_read
  blk_ext!
  all_goals simp [idx3, brow, bat, hd, pr]
  all_goals omega
theorem blk_g (t : Fin cfg0.N) (r : Fin 128) (x : Fin 128) :
    (iblk m c 4 t : FVec Ideal S128x128 .f32) (ix2 r x) = argG m c (ix2 (brow t r) x) := by
  blk_simp [iblk]
  entry_read
  blk_ext!
  all_goals simp [idx4, brow, bat, hd, pr]
  all_goals omega
theorem blk_w (t : Fin cfg0.N) (x : Fin 128) (a : Fin 512) :
    (iblk m c 5 t : FVec Ideal S128x512 .f32) (ix2 x a)
      = if h : x.val < 16 then argW m c (ix3 0 ⟨x.val, h⟩ ⟨(hd t).val * 512 + a.val, by have := (hd t).isLt; omega⟩) else (0 : EReal) := by
  refine Eq.trans ?_ (host_w m c x ⟨(hd t).val * 512 + a.val, by have := (hd t).isLt; omega⟩)
  blk_simp [iblk]
  blk_ext!
  all_goals simp [idx5, hd]
theorem blk_b (t : Fin cfg0.N) (a : Fin 512) :
    (iblk m c 6 t : FVec Ideal S1x1x512 .f32) (ix3 0 0 a) = argB m c (ix2 0 ⟨(hd t).val * 512 + a.val, by have := (hd t).isLt; omega⟩) := by
  refine Eq.trans ?_ (host_b m c ⟨(hd t).val * 512 + a.val, by have := (hd t).isLt; omega⟩)
  blk_simp [iblk]
  blk_ext!
  all_goals simp [idx6, hd]
theorem blk_n (t : Fin cfg0.N) (b : Fin 1024) :
    (iblk m c 7 t : FVec Ideal S1x1x1024 .f32) (ix3 0 0 b) = argN m c (ix2 0 b) := by
  refine Eq.trans ?_ (host_n m c b)
  blk_simp [iblk]
  blk_ext!
  all_goals simp [idx7]

/-! ## The payloads that prepare a block -/

theorem pay4_apply (x : FVec Ideal S128x512 .bf16) (r : Fin 128) (a : Fin 512) :
    (k0_pay4 (F := Ideal) x) (ix2 r a) = x (ix2 r a) * Ideal.ofBits FTy.f32 0x3D3504F3#32 := by
  pointwise [k0_pay4]
theorem pay5_apply (x : FVec Ideal S128x512 .bf16) (r : Fin 128) (a : Fin 512) :
    (k0_pay5 (F := Ideal) x) (ix2 r a) = x (ix2 r a) := by
  pointwise [k0_pay5]
theorem pay6_apply (g : FVec Ideal S128x128 .f32) (w : FVec Ideal S128x512 .f32) (b : FVec Ideal S1x1x512 .f32) (r : Fin 128) (a : Fin 512) :
    (k0_pay6 (F := Ideal) g w b) (ix2 r a) = Gla.logGate ((∑ x, g (ix2 r x) * w (ix2 x a)) + b (ix3 0 0 a)) := by
  pointwise [k0_pay6]
  rfl
theorem pay1_apply (o : FVec Ideal S128x1024 .f32) (w : FVec Ideal S1x1x1024 .f32) (r : FVec Ideal S128x1024 .bf16) (i : Fin 128) (b : Fin 1024) :
    (k0_pay1 (F := Ideal) o w r) (ix2 i b)
      = Gla.norm (fun b => o (ix2 i b)) (fun b => w (ix3 0 0 b)) (fun b => r (ix2 i b)) b := by
  pointwise [k0_pay1]
  rw [zero_sub]
  rfl
theorem pay2_apply (x : FVec Ideal S1x512x1024 .f32) (a : Fin 512) (b : Fin 1024) :
    (k0_pay2 (F := Ideal) x) (ix4 0 0 a b) = x (ix3 0 a b) := by
  pointwise [k0_pay2]
theorem pay3_apply (a : Fin 512) (b : Fin 1024) : (k0_pay3 (F := Ideal)) (ix3 0 a b) = (0 : EReal) := by
  pointwise [k0_pay3]

/-! ## A block's rows, as two chunks -/

variable (t : Fin cfg0.N)

theorem brow_lo (s : Fin 64) : brow t (Gla.lo s) = Gla.row (bat t) (2 * pr t) s := by
  have h : 2 * pr t < 32 := by unfold pr; omega
  refine Fin.ext ?_
  rw [Gla.row_val _ h]
  simp only [brow, Gla.lo]
  omega
theorem brow_hi (s : Fin 64) : brow t (Gla.hi s) = Gla.row (bat t) (2 * pr t + 1) s := by
  have h : 2 * pr t + 1 < 32 := by unfold pr; omega
  refine Fin.ext ?_
  rw [Gla.row_val _ h]
  simp only [brow, Gla.hi]
  omega

/-- The chunk a row of a block lies in, and its place there. -/
theorem row_cases {p : Fin 128 → ℕ → Fin 64 → Prop} (h0 : ∀ s, p (Gla.lo s) (2 * pr t) s) (h1 : ∀ s, p (Gla.hi s) (2 * pr t + 1) s) (r : Fin 128) :
    p r (2 * pr t + r.val / 64) ⟨r.val % 64, by omega⟩ := by
  by_cases h : r.val < 64
  · have e : r.val / 64 = 0 := by omega
    have e2 : r = Gla.lo ⟨r.val % 64, by omega⟩ := Fin.ext (by simp only [Gla.lo]; omega)
    have := h0 ⟨r.val % 64, by omega⟩
    rw [← e2] at this
    rwa [e]
  · have e : r.val / 64 = 1 := by omega
    have e2 : r = Gla.hi ⟨r.val % 64, by omega⟩ := Fin.ext (by simp only [Gla.hi]; omega)
    have := h1 ⟨r.val % 64, by omega⟩
    rw [← e2] at this
    rwa [e]

/-- The point's queries, keys, values and log gates. -/
abbrev bQ : FVec Ideal S128x512 .f32 := k0_pay4 (F := Ideal) (iblk m c 0 t)
abbrev bK : FVec Ideal S128x512 .f32 := k0_pay5 (F := Ideal) (iblk m c 1 t)
abbrev bL : FVec Ideal S128x512 .f32 := k0_pay6 (F := Ideal) (iblk m c 4 t) (iblk m c 5 t) (iblk m c 6 t)

theorem bQ_eq {r : Fin 128} {n : ℕ} {s : Fin 64} (h : brow t r = Gla.row (bat t) n s) (a : Fin 512) :
    bQ m c t (ix2 r a) = Gla.qry (argP m c) (bat t) (hd t) n s a := by
  rw [bQ, pay4_apply, blk_q, h]; rfl
theorem bK_eq {r : Fin 128} {n : ℕ} {s : Fin 64} (h : brow t r = Gla.row (bat t) n s) (a : Fin 512) :
    bK m c t (ix2 r a) = Gla.key (argP m c) (bat t) (hd t) n s a := by
  rw [bK, pay5_apply, blk_k, h]; rfl
theorem bV_eq {r : Fin 128} {n : ℕ} {s : Fin 64} (h : brow t r = Gla.row (bat t) n s) (b : Fin 1024) :
    (iblk m c 2 t : FVec Ideal S128x1024 .bf16) (ix2 r b) = Gla.val (argP m c) (bat t) (hd t) n s b := by
  rw [blk_v, h]; rfl
theorem bR_eq {r : Fin 128} {n : ℕ} {s : Fin 64} (h : brow t r = Gla.row (bat t) n s) (b : Fin 1024) :
    (iblk m c 3 t : FVec Ideal S128x1024 .bf16) (ix2 r b) = Gla.rec (argP m c) (bat t) (hd t) n s b := by
  rw [blk_r, h]; rfl

/-- A sum over 128 lanes whose last 112 are zero. -/
theorem sum_lanes (f : (x : Fin 128) → x.val < 16 → EReal) (g : Fin 128 → EReal) :
    (∑ x : Fin 128, g x * (if h : x.val < 16 then f x h else 0)) = ∑ x : Fin 16, g ⟨x.val, by omega⟩ * f ⟨x.val, by omega⟩ x.isLt := by
  rw [Fin.sum_univ_add (a := 16) (b := 112)]
  rw [Finset.sum_eq_zero (s := (Finset.univ : Finset (Fin 112))), add_zero]
  · refine Finset.sum_congr rfl fun x _ => ?_
    rw [dif_pos (show (Fin.castAdd 112 x).val < 16 from x.isLt)]
    rfl
  · intro x _
    rw [dif_neg (by simp), mul_zero]

theorem bL_eq {r : Fin 128} {n : ℕ} {s : Fin 64} (h : brow t r = Gla.row (bat t) n s) (a : Fin 512) :
    bL m c t (ix2 r a) = Gla.gate (argG m c) (argW m c) (argB m c) (bat t) (hd t) n s a := by
  rw [bL, pay6_apply, blk_b]
  simp only [blk_g, blk_w]
  rw [sum_lanes (fun x h => argW m c (ix3 0 ⟨x.val, h⟩ ⟨(hd t).val * 512 + a.val, by have := (hd t).isLt; omega⟩))
    (fun x => argG m c (ix2 (brow t r) x)), h]
  rfl

end Cert.KernelIdeal.Block
-- ==== Proof.KerValue.lean ====
/-
  What the kernel computes: its state after each point of the grid is the recurrence's, and the arrays it leaves hold the
  normalised and gated rows and the last states.
-/
module

public import Idealize.ShloMosaic.Lib.Pipeline.ReadBack
public import Idealize.ShloMosaic.Lib.Pipeline.Covers
public import Idealize.ShloMosaic.Lib.Pipeline.Value
public import proofs.«01_k».proof.Proof.KerInputs

@[expose] public section

set_option maxRecDepth 16384

noncomputable section

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-! ## What a point leaves, over the state before it -/

/-- The rows a point makes over a state. -/
abbrev rowsOf (S : FVec Ideal S1x512x1024 .f32) : FVec Ideal S128x1024 .f32 :=
  k0_pay20 (F := Ideal) (bQ m c t) (iblk m c 2 t) (k0_pay10 (bL m c t)) (k0_pay11 (bL m c t)) (k0_pay12 (bL m c t) io0 io1 k0_pay7 6#32)
    (k0_pay13 (bQ m c t) (bL m c t) io0 io1 k0_pay7 6#32) (k0_pay14 (bK m c t) (bL m c t) io0 io1 k0_pay7 6#32)
    (k0_pay15 (bQ m c t) (bK m c t) (bL m c t) io0 io1 k0_pay7 6#32) (k0_pay16 io0 io1) (k0_pay18 io0 io1) S
/-- The state a point leaves over a state. -/
abbrev stateOf (S : FVec Ideal S1x512x1024 .f32) : FVec Ideal S1x512x1024 .f32 :=
  k0_pay21 (F := Ideal) (iblk m c 2 t) (k0_pay10 (bL m c t)) (k0_pay11 (bL m c t)) (k0_pay14 (bK m c t) (bL m c t) io0 io1 k0_pay7 6#32)
    (k0_pay17 io0 io1) S
/-- The block of the result a point leaves over a state. -/
abbrev outOf (S : FVec Ideal S1x512x1024 .f32) : FVec Ideal S128x1024 .f32 :=
  k0_pay1 (F := Ideal) (rowsOf m c t S) (iblk m c 7 t) (iblk m c 3 t)

/-- The state the point before left. -/
abbrev prev : FVec Ideal S1x512x1024 .f32 := (outsAt0 m c (t.val - 1) (Nat.lt_of_le_of_lt (Nat.sub_le _ _) t.isLt)).2.2

/-- The state a point starts from: zero at the first of its head, what the point before left at the others. -/
def start : FVec Ideal S1x512x1024 .f32 := if t.val % 16 = 0 then k0_pay3 (F := Ideal) else prev m c t

theorem outs_state : (outsAt0 m c t.val t.isLt).2.2 = stateOf m c t (start m c t) := by
  unfold start
  by_cases h0 : t.val % 16 = 0
  · rw [if_pos h0, outsAt0_A m c t h0 (by omega)]
    frame_out
  · rw [if_neg h0]
    by_cases h1 : t.val % 16 = 15
    · rw [outsAt0_C m c t h0 h1]
      frame_out
      simp only [read_unread_whole]
    · rw [outsAt0_B m c t h0 h1]
      frame_out
      simp only [read_unread_whole]

theorem outs_rows : (outsAt0 m c t.val t.isLt).1 = outOf m c t (start m c t) := by
  unfold start
  by_cases h0 : t.val % 16 = 0
  · rw [if_pos h0, outsAt0_A m c t h0 (by omega)]
    frame_out
  · rw [if_neg h0]
    by_cases h1 : t.val % 16 = 15
    · rw [outsAt0_C m c t h0 h1]
      frame_out
      simp only [read_unread_whole]
    · rw [outsAt0_B m c t h0 h1]
      frame_out
      simp only [read_unread_whole]

theorem outs_last (h1 : t.val % 16 = 15) : (outsAt0 m c t.val t.isLt).2.1 = k0_pay2 (F := Ideal) (stateOf m c t (start m c t)) := by
  unfold start
  have h0 : ¬t.val % 16 = 0 := by omega
  rw [if_neg h0, outsAt0_C m c t h0 h1]
  frame_out
  simp only [read_unread_whole]

theorem idx8 : ∀ t : Fin cfg0.N, win0_8.index t = ![t.val / 64 * 16 + t.val % 16, t.val / 16 % 4] := by decide +kernel
theorem idx9 : ∀ t : Fin cfg0.N, win0_9.index t = ![t.val / 64, t.val / 16 % 4, 0, 0] := by decide +kernel

/-! ## The states -/

section value
variable {m c}
variable (hP : Gla.RealQkv (argP m c))

/-- The recurrence's state before chunk `n` of the point's head. -/
abbrev stt (n : ℕ) : Fin 512 → Fin 1024 → EReal := Gla.st (argP m c) (argG m c) (argW m c) (argB m c) (bat t) (hd t) n

theorem bL_nonpos (r : Fin 128) (a : Fin 512) : bL m c t (ix2 r a) ≤ 0 := by
  rw [bL, pay6_apply]
  exact Gla.logGate_nonpos _

include hP

theorem bK_real : Gla.IsReal fun (r : Fin 128) (a : Fin 512) => bK m c t (ix2 r a) := fun r a =>
  row_cases t (p := fun r n s => ∃ x : ℝ, bK m c t (ix2 r a) = (x : EReal))
    (fun s => by rw [bK_eq m c t (brow_lo t s)]; exact Gla.key_real hP _ _ (by unfold pr; omega) s a)
    (fun s => by rw [bK_eq m c t (brow_hi t s)]; exact Gla.key_real hP _ _ (by unfold pr; omega) s a) r
theorem bQ_real : Gla.IsReal fun (r : Fin 128) (a : Fin 512) => bQ m c t (ix2 r a) := fun r a =>
  row_cases t (p := fun r n s => ∃ x : ℝ, bQ m c t (ix2 r a) = (x : EReal))
    (fun s => by rw [bQ_eq m c t (brow_lo t s)]; exact Gla.qry_real hP _ _ (by unfold pr; omega) s a)
    (fun s => by rw [bQ_eq m c t (brow_hi t s)]; exact Gla.qry_real hP _ _ (by unfold pr; omega) s a) r
theorem bV_real : Gla.IsReal fun (r : Fin 128) (b : Fin 1024) => (iblk m c 2 t : FVec Ideal S128x1024 .bf16) (ix2 r b) := fun r b =>
  row_cases t (p := fun r n s => ∃ x : ℝ, (iblk m c 2 t : FVec Ideal S128x1024 .bf16) (ix2 r b) = (x : EReal))
    (fun s => by rw [bV_eq m c t (brow_lo t s)]; exact Gla.val_real hP _ _ (by unfold pr; omega) s b)
    (fun s => by rw [bV_eq m c t (brow_hi t s)]; exact Gla.val_real hP _ _ (by unfold pr; omega) s b) r

/-- A POINT'S STATE is two chunks further than the one it starts from. -/
theorem state_step {S : FVec Ideal S1x512x1024 .f32} (hS : ∀ a b, S (ix3 0 a b) = stt (m := m) (c := c) t (2 * pr t) a b) (a : Fin 512) (b : Fin 1024) :
    stateOf m c t S (ix3 0 a b) = stt (m := m) (c := c) t (2 * (pr t + 1)) a b := by
  have hr : Gla.IsReal fun a b => S (ix3 0 a b) := by
    simp only [hS]
    exact Gla.st_real _ _ _ hP _ _ (by unfold pr; omega)
  rw [stateOf, state_apply _ _ _ _ (bL_nonpos t), Gla.kState_eq (bK_real t hP) (bV_real t hP) hr (bL_nonpos t)]
  simp only [hS, bK_eq m c t (brow_lo t _), bK_eq m c t (brow_hi t _), bL_eq m c t (brow_lo t _), bL_eq m c t (brow_hi t _),
    bV_eq m c t (brow_lo t _), bV_eq m c t (brow_hi t _)]
  rfl

/-- A POINT'S BLOCK holds the result's rows. -/
theorem out_step {S : FVec Ideal S1x512x1024 .f32} (hS : ∀ a b, S (ix3 0 a b) = stt (m := m) (c := c) t (2 * pr t) a b) (r : Fin 128) (b : Fin 1024) :
    outOf m c t S (ix2 r b) = Gla.out (argP m c) (argG m c) (argW m c) (argB m c) (argN m c) (bat t) (hd t) (2 * pr t + r.val / 64) ⟨r.val % 64, by omega⟩ b := by
  have hr : Gla.IsReal fun a b => S (ix3 0 a b) := by
    simp only [hS]
    exact Gla.st_real _ _ _ hP _ _ (by unfold pr; omega)
  rw [outOf, pay1_apply]
  unfold Gla.out
  have h1 : ∀ b, rowsOf m c t S (ix2 r b)
      = Gla.rows (argP m c) (argG m c) (argW m c) (argB m c) (bat t) (hd t) (2 * pr t + r.val / 64) ⟨r.val % 64, by omega⟩ b := fun b => by
    rw [rowsOf, out_apply _ _ _ _ _ (bL_nonpos t)]
    refine row_cases t (p := fun r n s => Gla.kOut _ _ _ _ _ r b = Gla.rows (argP m c) (argG m c) (argW m c) (argB m c) (bat t) (hd t) n s b) (fun s => ?_) (fun s => ?_) r
    · rw [Gla.kOut_lo]
      simp only [hS, bK_eq m c t (brow_lo t _), bL_eq m c t (brow_lo t _), bV_eq m c t (brow_lo t _), bQ_eq m c t (brow_lo t _)]
      rfl
    · rw [Gla.kOut_hi (bQ_real t hP) (bK_real t hP) (bV_real t hP) hr (bL_nonpos t)]
      simp only [hS, bK_eq m c t (brow_lo t _), bK_eq m c t (brow_hi t _), bL_eq m c t (brow_lo t _), bL_eq m c t (brow_hi t _),
        bV_eq m c t (brow_lo t _), bV_eq m c t (brow_hi t _), bQ_eq m c t (brow_hi t _)]
      rfl
  have h2 : ∀ b, (iblk m c 3 t : FVec Ideal S128x1024 .bf16) (ix2 r b)
      = Gla.rec (argP m c) (bat t) (hd t) (2 * pr t + r.val / 64) ⟨r.val % 64, by omega⟩ b := fun b =>
    row_cases t (p := fun r n s => (iblk m c 3 t : FVec Ideal S128x1024 .bf16) (ix2 r b) = Gla.rec (argP m c) (bat t) (hd t) n s b)
      (fun s => bR_eq m c t (brow_lo t s) b) (fun s => bR_eq m c t (brow_hi t s) b) r
  simp only [h1, h2, blk_n]

/-- THE STATE A POINT STARTS FROM is the recurrence's before its first chunk. -/
theorem start_eq : ∀ (n : ℕ) (h : n < cfg0.N) (a : Fin 512) (b : Fin 1024),
    start m c ⟨n, h⟩ (ix3 0 a b) = stt (m := m) (c := c) ⟨n, h⟩ (2 * pr ⟨n, h⟩) a b
  | 0, h, a, b => by
    unfold start
    rw [if_pos (by simp), pay3_apply]
    rfl
  | n + 1, h, a, b => by
    unfold start
    by_cases h0 : (n + 1) % 16 = 0
    · rw [if_pos h0, pay3_apply]
      have e : pr ⟨n + 1, h⟩ = 0 := h0
      rw [e]
      rfl
    · rw [if_neg h0]
      have hn : n < cfg0.N := by omega
      have e : prev m c ⟨n + 1, h⟩ = stateOf m c ⟨n, hn⟩ (start m c ⟨n, hn⟩) := outs_state m c ⟨n, hn⟩
      rw [e, state_step ⟨n, hn⟩ hP (start_eq n hn)]
      have e1 : bat ⟨n, hn⟩ = bat ⟨n + 1, h⟩ := Fin.ext (by simp only [bat]; omega)
      have e2 : hd ⟨n, hn⟩ = hd ⟨n + 1, h⟩ := Fin.ext (by simp only [hd]; omega)
      have e3 : pr ⟨n, hn⟩ + 1 = pr ⟨n + 1, h⟩ := by simp only [pr]; omega
      rw [stt, e1, e2, e3]

/-! ## The arrays -/

theorem out_block (r : Fin 128) (b : Fin 1024) :
    ((outsAt0 m c t.val t.isLt).1 : FVec Ideal S128x1024 .f32) (ix2 r b)
      = Gla.out (argP m c) (argG m c) (argW m c) (argB m c) (argN m c) (bat t) (hd t) (2 * pr t + r.val / 64) ⟨r.val % 64, by omega⟩ b := by
  rw [outs_rows]
  exact out_step t hP (start_eq hP t.val t.isLt) r b

theorem state_block (h1 : t.val % 16 = 15) (a : Fin 512) (b : Fin 1024) :
    ((outsAt0 m c t.val t.isLt).2.1 : FVec Ideal S1x1x512x1024 .f32) (ix4 0 0 a b)
      = Gla.st (argP m c) (argG m c) (argW m c) (argB m c) (bat t) (hd t) 32 a b := by
  rw [outs_last m c t h1, pay2_apply, state_step t hP (start_eq hP t.val t.isLt)]
  have e : 2 * (pr t + 1) = 32 := by unfold pr; omega
  rw [stt, e]

/-- The result, of the arguments. -/
def arr8 (m : (ℓ : Loc nD τ sig) → Buf (Elt Ideal) ℓ) (c : Dev nD) : FVec Ideal S8192x4096 .f32 := fun i =>
  Gla.out (argP m c) (argG m c) (argW m c) (argB m c) (argN m c)
    ⟨(i 0).val / 2048, by have h : (i 0).val < 8192 := (i 0).isLt; omega⟩ ⟨(i 1).val / 1024, by have h : (i 1).val < 4096 := (i 1).isLt; omega⟩
    ((i 0).val % 2048 / 64) ⟨(i 0).val % 64, by omega⟩ ⟨(i 1).val % 1024, by omega⟩
/-- The last states, of the arguments. -/
def arr9 (m : (ℓ : Loc nD τ sig) → Buf (Elt Ideal) ℓ) (c : Dev nD) : FVec Ideal S4x4x512x1024 .f32 := fun i =>
  Gla.st (argP m c) (argG m c) (argW m c) (argB m c) (i 0) (i 1) 32 (i 2) (i 3)

theorem array8 : (dats m 0 c).arrAt 8 cfg0.N = arr8 m c := by
  refine (dats m 0 c).arrAt_eq_of_covers 8 _ (by decide +kernel) fun t hf y => ?_
  blk_simp
  rw [after0_8]
  obtain ⟨r, b, rfl⟩ : ∃ (r : Fin 128) (b : Fin 1024), y = ix2 r b := ⟨y 0, y 1, funext fun k => by fin_cases k <;> rfl⟩
  have e : (win0_8.blk t).view.emb (ix2 r b)
      = ix2 (⟨(bat t).val * 2048 + pr t * 128 + r.val, by have := (bat t).isLt; unfold pr; omega⟩ : Fin 8192)
          (⟨(hd t).val * 1024 + b.val, by have := (hd t).isLt; omega⟩ : Fin 4096) := by
    have i0 : win0_8.index t 0 = t.val / 64 * 16 + t.val % 16 := congrFun (idx8 t) 0
    have i1 : win0_8.index t 1 = t.val / 16 % 4 := congrFun (idx8 t) 1
    blk_ext!
    all_goals simp only [i0, i1, bat, hd, pr]
    all_goals omega
  refine (out_block t hP r b).trans ?_
  rw [e]
  have hb := (bat t).isLt
  have hh := (hd t).isLt
  have hp : pr t < 16 := Nat.mod_lt _ (by decide)
  have hr := r.isLt
  have hb' := b.isLt
  unfold arr8
  congr 1 <;> first | exact Fin.ext (by show _ = (_ : ℕ); simp [ix2]; omega) | (simp [ix2]; omega)
theorem array9 : (dats m 0 c).arrAt 9 cfg0.N = arr9 m c := by
  refine (dats m 0 c).arrAt_eq_of_covers 9 _ (by decide +kernel) fun t hf y => ?_
  blk_simp
  rw [after0_9]
  obtain ⟨a, b, rfl⟩ : ∃ (a : Fin 512) (b : Fin 1024), y = ix4 0 0 a b := ⟨y 2, y 3, funext fun k => by fin_cases k <;> first | rfl | exact Subsingleton.elim (α := Fin 1) _ _⟩
  have e : (win0_9.blk t).view.emb (ix4 0 0 a b) = ix4 (bat t) (hd t) a b := by
    have i0 : win0_9.index t 0 = t.val / 64 := congrFun (idx9 t) 0
    have i1 : win0_9.index t 1 = t.val / 16 % 4 := congrFun (idx9 t) 1
    have i2 : win0_9.index t 2 = 0 := congrFun (idx9 t) 2
    have i3 : win0_9.index t 3 = 0 := congrFun (idx9 t) 3
    blk_ext!
    all_goals simp [i0, i1, i2, i3, bat, hd]
  have h1 : t.val % 16 = 15 := (flush0_9 t).mp hf
  refine (state_block t hP h1 a b).trans ?_
  rw [e]
  rfl

end value

end Cert.KernelIdeal.Block
-- ==== Proof.RefRun.lean ====
/-
  The reference's run as the chunk's step iterated: one trip of its loop takes the state the buffers hold to the next, so
  its results are read off the state after 32 trips.
-/
module

public import Idealize.ShloMosaic.Lib.Pointwise
public import proofs.«01_k».proof.Proof.Gen.ReferenceIdeal.Run
public import proofs.«01_k».proof.Proof.Gen.ReferenceIdeal.Step

@[expose] public section

set_option maxRecDepth 16384

noncomputable section

namespace Cert.ReferenceIdeal.Chunk

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step hiding step_main_v37_6 step_main_v37_7

/-- The state the loop's buffers hold. -/
def held (V0 : Valuation τ sig (Elt Ideal)) : State Ideal where
  main_v37_6 := V0 (Proc.devRef .tc main_v37_6)
  main_v37_7 := V0 (Proc.devRef .tc main_v37_7)
  main_v37_0 := V0 (Proc.devRef .tc main_v37_0)
  main_v37_1 := V0 (Proc.devRef .tc main_v37_1)
  main_v37_2 := V0 (Proc.devRef .tc main_v37_2)
  main_v37_3 := V0 (Proc.devRef .tc main_v37_3)

/-- The buffers before trip `j`: its state, its number, and the mask of the rows that a row sees. -/
structure Before (V0 : Valuation τ sig (Elt Ideal)) (s : State Ideal) (j : ℕ) : Prop where
  state : held V0 = s
  number : V0 (Proc.devRef .tc main_v37_5) = constantI S_ 32 (BitVec.ofNat 32 j)
  mask : V0 (Proc.devRef .tc main_v37_4) = K_main_v26 (F := Ideal)

variable {V0 : Valuation τ sig (Elt Ideal)} {s : State Ideal} {j : ℕ}

theorem trip_keys (h : Before V0 s j) : res_main_while0b_v63 V0 = b11 j (held V0) := by
  unfold res_main_while0b_v63; rw [h.number]; rfl
theorem trip_vals (h : Before V0 s j) : res_main_while0b_v64 V0 = b17 j (held V0) := by
  unfold res_main_while0b_v64; rw [h.number]; rfl
theorem trip_gates (h : Before V0 s j) : res_main_while0b_v66 V0 = b26 j (held V0) := by
  unfold res_main_while0b_v66; rw [h.number]; rfl
theorem trip_total (h : Before V0 s j) : res_main_while0b_v67 V0 = b27 j (held V0) := by
  unfold res_main_while0b_v67; rw [trip_gates h]; rfl
theorem trip_queries (h : Before V0 s j) : res_main_while0b_v69 V0 = b29 j (held V0) := by
  unfold res_main_while0b_v69; rw [h.number, trip_gates h]; rfl

/-- A trip's state is the chunk's. -/
theorem trip_state (h : Before V0 s j) : step_main_v37_6 V0 = b52 j (held V0) := by
  unfold step_main_v37_6
  rw [trip_keys h, trip_vals h, trip_gates h, trip_total h]
  rfl
/-- A trip's stack of rows is the chunk's. -/
theorem trip_rows (h : Before V0 s j) : step_main_v37_7 V0 = b58 j (held V0) := by
  unfold step_main_v37_7
  rw [trip_keys h, trip_vals h, trip_gates h, trip_queries h, h.number, h.mask]
  rfl

/-- A TRIP takes the state before it to the next. -/
theorem trip (h : Before V0 s j) : Before (STEP V0) (step j s) (j + 1) where
  state := by
    rw [← h.state]
    unfold held
    rw [STEP_main_v37_6, STEP_main_v37_7, STEP_main_v37_0, STEP_main_v37_1, STEP_main_v37_2, STEP_main_v37_3, trip_state h, trip_rows h]
    rfl
  number := by
    rw [STEP_main_v37_5]
    unfold step_main_v37_5
    rw [h.number]
    funext i
    show BitVec.ofNat 32 j + 1#32 = BitVec.ofNat 32 (j + 1)
    rw [← BitVec.ofNat_add]
  mask := (STEP_main_v37_4 V0).trans h.mask

/-- What the operations after the loop make of its last state. -/
theorem rows_out {P : FVec Ideal S9216x12288 .bf16} {N : FVec Ideal S1x1024 .f32} (hP : V0 (Proc.devRef .tc main_arg0) = P)
    (hN : V0 (Proc.devRef .tc main_arg4) = N) : out_main_v61 V0 = R_main_v61 (held V0) P N := by
  subst hP hN
  unfold out_main_v61 R_main_v61
  rfl

variable (m : (ℓ : Loc nD τ sig) → Buf (Elt Ideal) ℓ) (c : Dev nD)

/-- The arguments the loop's arrays are computed from, and the loop's states. -/
def states : ℕ → State Ideal
  | 0 => init (m ((c.tc : Thread nD τ).loc main_arg0)) (m ((c.tc : Thread nD τ).loc main_arg1)) (m ((c.tc : Thread nD τ).loc main_arg2))
      (m ((c.tc : Thread nD τ).loc main_arg3))
  | n + 1 => step n (states n)

theorem entry : Before (entryContents preI m c) (states m c 0) 0 := by
  refine ⟨?_, ?_, ?_⟩
  · unfold held states init
    congr 1 <;> (simp only [entryContents, afterL_cons, afterL_nil]; after_reads_simp) <;> rfl
  · (simp only [entryContents, afterL_cons, afterL_nil]; after_reads_simp) <;> rfl
  · (simp only [entryContents, afterL_cons, afterL_nil]; after_reads_simp) <;> rfl

theorem before : ∀ k, Before (STEP^[k] (entryContents preI m c)) (states m c k) k
  | 0 => entry m c
  | k + 1 => by
    rw [Function.iterate_succ_apply']
    exact trip (before k)

/-- THE REFERENCE'S RUN: its results are read off the state after 32 trips. -/
theorem run_states (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
          = R_main_v61 (states m c 32) (m ((c.tc : Thread nD τ).loc main_arg0)) (m ((c.tc : Thread nD τ).loc main_arg4))
      ∧ r.2.mem ((c.tc : Thread nD τ).loc main_v37_6) = (states m c 32).main_v37_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.ReferenceIdeal.Value.run m ρ)
  have hk := before m c 32
  refine ⟨(h c).1.trans ?_, (h c).2.1.trans ?_, (h c).2.2⟩
  · rw [← hk.state]
    exact rows_out (iter_main_arg0 m c 32) (iter_main_arg4 m c 32)
  · exact congrArg State.main_v37_6 hk.state

end Cert.ReferenceIdeal.Chunk

end
-- ==== Proof.RefChunk.lean ====
/-
  One trip of the reference's loop, read at an index: the state it hands on and the rows it puts out are one chunk of
  the recurrence (Proof/GlaMath.lean).
-/
module

public import Idealize.ShloMosaic.Lib.Pointwise
public import Idealize.ShloMosaic.Lib.DynamicIndex
public import proofs.«01_k».proof.Proof.GlaMath
public import proofs.«01_k».proof.Proof.Gen.ReferenceIdeal.Step

@[expose] public section

set_option maxRecDepth 16384

noncomputable section

namespace Cert.ReferenceIdeal.Chunk

open Idealize.ShloMosaic Cert.ReferenceIdeal Cert.ReferenceIdeal.Gen Cert.ReferenceIdeal.Step

/-! ## The running sum along a chunk's rows -/

theorem foldl_add {M : Type*} [AddCommMonoid M] {ι : Type*} (g : ι → M) (L : List ι) (v : M) :
    L.foldl (fun r n => r + g n) v = v + (L.map g).sum := by
  induction L generalizing v with
  | nil => simp
  | cons a L ih => rw [List.foldl_cons, ih, List.map_cons, List.sum_cons, add_assoc]

/-- The 64 window positions that end at row `c`, those before row 0 left out, are the rows up to `c`. -/
theorem sum_prefix {M : Type*} [AddCommMonoid M] (f : Fin 64 → M) (c : Fin 64) :
    (∑ w : Fin 64, if h : 63 ≤ c.val + w.val then f ⟨c.val + w.val - 63, by omega⟩ else 0)
      = ∑ s : Fin 64, if s ≤ c then f s else 0 := by
  refine Fintype.sum_equiv (Equiv.addRight (c + 1)) _ _ fun w => ?_
  have hval : ((Equiv.addRight (c + 1)) w).val = (w.val + (c.val + 1) % 64) % 64 := by
    show (w + (c + 1)).val = _
    rw [Fin.val_add, Fin.val_add]
    rfl
  have hw := w.isLt
  have hc := c.isLt
  by_cases h : 63 ≤ c.val + w.val
  · have e : ((Equiv.addRight (c + 1)) w) = ⟨c.val + w.val - 63, by omega⟩ := Fin.ext (by rw [hval]; show _ = c.val + w.val - 63; omega)
    rw [dif_pos h, e]
    exact (if_pos (show c.val + w.val - 63 ≤ c.val by omega)).symm
  · rw [dif_neg h, if_neg]
    intro hle
    have : ((Equiv.addRight (c + 1)) w).val ≤ c.val := hle
    omega

/-- jax's running sum along the third axis, at an index. -/
theorem cumsum_apply (x : FVec Ideal S4x4x64x512 .f32) (z : FVec Ideal S_ .f32) (hz : ∀ i, z i = (0 : EReal))
    (h : S4x4x64x512.ReduceWindows ![1, 1, 64, 1] ![1, 1, 1, 1] ![0, 0, 63, 0] ![0, 0, 0, 0] S4x4x64x512) (hu : 0 < S_.numel)
    (bb hh : Fin 4) (c : Fin 64) (a : Fin 512) :
    Host.reduceWindowAdd ![1, 1, 64, 1] ![1, 1, 1, 1] ![0, 0, 63, 0] ![0, 0, 0, 0] x z h hu (ix4 bb hh c a)
      = Gla.cum (fun s => x (ix4 bb hh s a)) c := by
  unfold Host.reduceWindowAdd
  rw [Ideal.hostReduceWindowAdd_def, hz]
  unfold Ideal.hostReduceWindowAdd Host.reduceWindow
  dsimp only
  rw [foldl_add, zero_add, ← Fin.sum_univ_def]
  refine (Fintype.sum_equiv (Shape.rowMajor (⟨4, ![1, 1, 64, 1]⟩ : Shape)).symm _
    (fun w : (⟨4, ![1, 1, 64, 1]⟩ : Shape).Idx =>
      if h : 63 ≤ c.val + (w 2).val then x (ix4 bb hh ⟨c.val + (w 2).val - 63, by have : (w 2).val < 64 := (w 2).isLt; omega⟩ a) else (0 : EReal))
    fun i => ?_).trans ?_
  · have h0 : (((Shape.rowMajor (⟨4, ![1, 1, 64, 1]⟩ : Shape)).symm i) 0).val < 1 := (((Shape.rowMajor (⟨4, ![1, 1, 64, 1]⟩ : Shape)).symm i) 0).isLt
    have h1 : (((Shape.rowMajor (⟨4, ![1, 1, 64, 1]⟩ : Shape)).symm i) 1).val < 1 := (((Shape.rowMajor (⟨4, ![1, 1, 64, 1]⟩ : Shape)).symm i) 1).isLt
    have h2 : (((Shape.rowMajor (⟨4, ![1, 1, 64, 1]⟩ : Shape)).symm i) 2).val < 64 := (((Shape.rowMajor (⟨4, ![1, 1, 64, 1]⟩ : Shape)).symm i) 2).isLt
    have h3 : (((Shape.rowMajor (⟨4, ![1, 1, 64, 1]⟩ : Shape)).symm i) 3).val < 1 := (((Shape.rowMajor (⟨4, ![1, 1, 64, 1]⟩ : Shape)).symm i) 3).isLt
    have hc := c.isLt
    by_cases hcw : 63 ≤ c.val + (((Shape.rowMajor (⟨4, ![1, 1, 64, 1]⟩ : Shape)).symm i) 2).val
    · rw [dif_pos hcw, dif_pos]
      · refine congrArg x (funext fun p => Fin.ext ?_)
        match p with
        | ⟨0, _⟩ => show bb.val * 1 + (((Shape.rowMajor (⟨4, ![1, 1, 64, 1]⟩ : Shape)).symm i) 0).val - 0 = bb.val; omega
        | ⟨1, _⟩ => show hh.val * 1 + (((Shape.rowMajor (⟨4, ![1, 1, 64, 1]⟩ : Shape)).symm i) 1).val - 0 = hh.val; omega
        | ⟨2, _⟩ => show c.val * 1 + (((Shape.rowMajor (⟨4, ![1, 1, 64, 1]⟩ : Shape)).symm i) 2).val - 63 = c.val + (((Shape.rowMajor (⟨4, ![1, 1, 64, 1]⟩ : Shape)).symm i) 2).val - 63; omega
        | ⟨3, _⟩ => show a.val * 1 + (((Shape.rowMajor (⟨4, ![1, 1, 64, 1]⟩ : Shape)).symm i) 3).val - 0 = a.val; omega
      · intro p
        match p with
        | ⟨0, _⟩ => show 0 ≤ bb.val * 1 + (((Shape.rowMajor (⟨4, ![1, 1, 64, 1]⟩ : Shape)).symm i) 0).val ∧ bb.val * 1 + (((Shape.rowMajor (⟨4, ![1, 1, 64, 1]⟩ : Shape)).symm i) 0).val - 0 < 4; omega
        | ⟨1, _⟩ => show 0 ≤ hh.val * 1 + (((Shape.rowMajor (⟨4, ![1, 1, 64, 1]⟩ : Shape)).symm i) 1).val ∧ hh.val * 1 + (((Shape.rowMajor (⟨4, ![1, 1, 64, 1]⟩ : Shape)).symm i) 1).val - 0 < 4; omega
        | ⟨2, _⟩ => show 63 ≤ c.val * 1 + (((Shape.rowMajor (⟨4, ![1, 1, 64, 1]⟩ : Shape)).symm i) 2).val ∧ c.val * 1 + (((Shape.rowMajor (⟨4, ![1, 1, 64, 1]⟩ : Shape)).symm i) 2).val - 63 < 64; omega
        | ⟨3, _⟩ => show 0 ≤ a.val * 1 + (((Shape.rowMajor (⟨4, ![1, 1, 64, 1]⟩ : Shape)).symm i) 3).val ∧ a.val * 1 + (((Shape.rowMajor (⟨4, ![1, 1, 64, 1]⟩ : Shape)).symm i) 3).val - 0 < 512; omega
    · rw [dif_neg hcw, dif_neg]
      intro hin
      have h2 : 63 ≤ c.val * 1 + (((Shape.rowMajor (⟨4, ![1, 1, 64, 1]⟩ : Shape)).symm i) 2).val := (hin 2).1
      omega
  · rw [sum_idx4]
    simp only [Fin.sum_univ_one]
    unfold Gla.cum
    rw [← sum_prefix]
    rfl

/-! ## The trip's slices of the four stacks -/

section trip
variable (n : Fin 32) (s : State Ideal)

/-- The loop's counter, clamped to the stack, is itself. -/
theorem start_eq : (min (max (BitVec.toInt (BitVec.ofNat 32 n.val)) 0) ((32 - 1 : ℕ) : ℤ)).toNat = n.val := by
  rw [toInt_ofNat_of_lt (by omega)]
  omega

theorem b5_apply (bb hh : Fin 4) (c : Fin 64) (a : Fin 512) : b5 n.val s (ix4 bb hh c a) = s.main_v37_0 (ix5 n bb hh c a) := by
  pointwise [b5, b4, b3, b2, b1, b0]
  exact congrArg _ ((ix5_inj ..).mpr ⟨Fin.ext (start_eq n), Fin.ext (Nat.zero_add _), Fin.ext (Nat.zero_add _),
    Fin.ext (Nat.zero_add _), Fin.ext (Nat.zero_add _)⟩)

theorem b11_apply (bb hh : Fin 4) (c : Fin 64) (a : Fin 512) : b11 n.val s (ix4 bb hh c a) = s.main_v37_1 (ix5 n bb hh c a) := by
  pointwise [b11, b10, b9, b8, b7, b6]
  exact congrArg _ ((ix5_inj ..).mpr ⟨Fin.ext (start_eq n), Fin.ext (Nat.zero_add _), Fin.ext (Nat.zero_add _),
    Fin.ext (Nat.zero_add _), Fin.ext (Nat.zero_add _)⟩)

theorem b17_apply (bb hh : Fin 4) (c : Fin 64) (a : Fin 1024) : b17 n.val s (ix4 bb hh c a) = s.main_v37_2 (ix5 n bb hh c a) := by
  pointwise [b17, b16, b15, b14, b13, b12]
  exact congrArg _ ((ix5_inj ..).mpr ⟨Fin.ext (start_eq n), Fin.ext (Nat.zero_add _), Fin.ext (Nat.zero_add _),
    Fin.ext (Nat.zero_add _), Fin.ext (Nat.zero_add _)⟩)

theorem b23_apply (bb hh : Fin 4) (c : Fin 64) (a : Fin 512) : b23 n.val s (ix4 bb hh c a) = s.main_v37_3 (ix5 n bb hh c a) := by
  pointwise [b23, b22, b21, b20, b19, b18]
  exact congrArg _ ((ix5_inj ..).mpr ⟨Fin.ext (start_eq n), Fin.ext (Nat.zero_add _), Fin.ext (Nat.zero_add _),
    Fin.ext (Nat.zero_add _), Fin.ext (Nat.zero_add _)⟩)

/-- The chunk's queries, keys, values and log gates at a batch and a head. -/
abbrev Q (s : State Ideal) (n : Fin 32) (bb hh : Fin 4) : Fin 64 → Fin 512 → EReal := fun c a => s.main_v37_0 (ix5 n bb hh c a)
abbrev Kc (s : State Ideal) (n : Fin 32) (bb hh : Fin 4) : Fin 64 → Fin 512 → EReal := fun c a => s.main_v37_1 (ix5 n bb hh c a)
abbrev Vc (s : State Ideal) (n : Fin 32) (bb hh : Fin 4) : Fin 64 → Fin 1024 → EReal := fun c a => s.main_v37_2 (ix5 n bb hh c a)
abbrev Gc (s : State Ideal) (n : Fin 32) (bb hh : Fin 4) : Fin 64 → Fin 512 → EReal := fun c a => s.main_v37_3 (ix5 n bb hh c a)

theorem b26_apply (bb hh : Fin 4) (c : Fin 64) (a : Fin 512) :
    b26 n.val s (ix4 bb hh c a) = Gla.cum (fun r => Gc s n bb hh r a) c := by
  unfold b26
  refine (cumsum_apply _ _ (fun i => ?_) _ _ bb hh c a).trans ?_
  · pointwise [b25, b24]
  · simp only [b23_apply]

theorem b27_apply (bb hh : Fin 4) (a : Fin 512) :
    b27 n.val s (ix4 bb hh 0 a) = Gla.tot (fun r => Gc s n bb hh r a) := by
  pointwise [b27]
  refine (b26_apply n s bb hh 63 a).trans ?_
  unfold Gla.cum Gla.tot
  exact Finset.sum_congr rfl fun r _ => if_pos (show r.val ≤ 63 by omega)

/-- THE STATE A TRIP HANDS ON is the chunk's. -/
theorem state_apply (bb hh : Fin 4) (a : Fin 512) (b : Fin 1024) :
    b52 n.val s (ix4 bb hh a b)
      = Gla.stateStep (Kc s n bb hh) (Gc s n bb hh) (Vc s n bb hh) (fun a b => s.main_v37_6 (ix4 bb hh a b)) a b := by
  pointwise [b52, b46, b45, b44, b43, b42, b51, b50, b49, b48, b47]
  simp only [b26_apply, b27_apply, b11_apply, b17_apply, Gla.stateStep]

/-- The causal mask. -/
theorem mask_apply (c r : Fin 64) : K_main_v26 (F := Ideal) (ix2 c r) = if r ≤ c then 1#1 else 0#1 := by
  pointwise [K_main_v26, K_main_call1_v5, K_main_call1_c_0, K_main_call1_v4, K_main_call1_v3, K_main_call1_v2, K_main_call1_v1,
    K_main_call1_c, K_main_call1_v0, K_main_v25, K_main_c]
  have hc := c.isLt
  have hr := r.isLt
  have e : IntOp.cmpi CmpIPredicate.sge (IntOp.addi (BitVec.ofNat 32 c.val) 0#32) (BitVec.ofNat 32 r.val) = BitVec.ofBool (decide (r ≤ c)) := by
    show BitVec.ofBool (decide ((BitVec.ofNat 32 r.val).toInt ≤ (BitVec.ofNat 32 c.val + 0#32).toInt)) = _
    rw [BitVec.add_zero, toInt_ofNat_of_lt (by omega), toInt_ofNat_of_lt (by omega)]
    congr 2
    refine propext ?_
    rw [Fin.le_def]
    omega
  rw [e]
  by_cases h : r ≤ c <;> simp [h, Scalar.select]

/-- THE ROWS A TRIP PUTS OUT are the chunk's. -/
theorem out_apply (bb hh : Fin 4) (c : Fin 64) (b : Fin 1024) :
    b41 n.val s (ix4 bb hh c b)
      = Gla.outStep (Q s n bb hh) (Kc s n bb hh) (Gc s n bb hh) (Vc s n bb hh) (fun a b => s.main_v37_6 (ix4 bb hh a b)) c b := by
  pointwise [b41, b40, b39, b38, b37, b36, b35, b34, b33, b32, b31, b30, b29, b28]
  simp only [b26_apply, b5_apply, b11_apply, b17_apply, mask_apply, Gla.outStep]
  congr 1
  refine Finset.sum_congr rfl fun r _ => ?_
  by_cases h : r ≤ c <;> simp [h, Scalar.select]

end trip

end Cert.ReferenceIdeal.Chunk

end
-- ==== Proof.RefValue.lean ====
/-
  What the reference computes, of its argument arrays: its state after `n` trips is the recurrence's, its stack of rows
  holds the rows of the chunks done, and its result is the normalised and gated rows.
-/
module

public import proofs.«01_k».proof.Proof.RefChunk
public import proofs.«01_k».proof.Proof.Spec

@[expose] public section

set_option maxRecDepth 16384

noncomputable section

namespace Cert.ReferenceIdeal.Chunk

open Idealize.ShloMosaic Cert.ReferenceIdeal Cert.ReferenceIdeal.Gen Cert.ReferenceIdeal.Step

variable (P : FVec Ideal S9216x12288 .bf16) (G : FVec Ideal S9216x128 .f32) (W : FVec Ideal S1x16x2048 .f32)
  (B : FVec Ideal S1x2048 .f32) (N : FVec Ideal S1x1024 .f32)

/-! ## The stacks the loop reads -/

theorem row_eq (bb : Fin 4) (n : Fin 32) (c : Fin 64) {h} : (⟨bb.val * 2048 + (n.val * 64 + c.val), h⟩ : Fin 9216) = Gla.row bb n.val c :=
  Fin.ext (Gla.row_val bb n.isLt c).symm

theorem A_qry (n : Fin 32) (bb hh : Fin 4) (c : Fin 64) (a : Fin 512) :
    A_main_v29 (F := Ideal) P G W B (ix5 n bb hh c a) = Gla.qry P bb hh n.val c a := by
  pointwise [A_main_v29, A_main_v28, A_main_v21, A_main_v19, A_main_v7, A_main_v4, A_main_v3, A_main_v2, K_main_v20, K_main_cst_0]
  rw [row_eq]
  rfl

theorem A_key (n : Fin 32) (bb hh : Fin 4) (c : Fin 64) (a : Fin 512) :
    A_main_v31 (F := Ideal) P G W B (ix5 n bb hh c a) = Gla.key P bb hh n.val c a := by
  pointwise [A_main_v31, A_main_v30, A_main_v22, A_main_v8, A_main_v4, A_main_v3, A_main_v2]
  rw [row_eq]
  rfl

theorem A_val (n : Fin 32) (bb hh : Fin 4) (c : Fin 64) (b : Fin 1024) :
    A_main_v33 (F := Ideal) P G W B (ix5 n bb hh c b) = Gla.val P bb hh n.val c b := by
  pointwise [A_main_v33, A_main_v32, A_main_v23, A_main_v9, A_main_v4, A_main_v3, A_main_v2]
  rw [row_eq]
  rfl

theorem A_gate (n : Fin 32) (bb hh : Fin 4) (c : Fin 64) (a : Fin 512) :
    A_main_v35 (F := Ideal) P G W B (ix5 n bb hh c a) = Gla.gate G W B bb hh n.val c a := by
  pointwise [A_main_v35, A_main_v34, A_main_v24, A_main_v18, A_main_v16, A_main_v15, A_main_v14, A_main_v13, A_main_v12, A_main_v11,
    A_main_v10, A_main_v6, A_main_v5, A_main_v1, A_main_v0, A_main_call0_v1, A_main_call0_v3, A_main_call0_v4, A_main_call0_v6,
    A_main_call0_v7, A_main_call0_v8, A_main_call0_v9, A_main_call0_v10, A_main_call0_v11, K_main_v17, K_main_cst, K_main_call0_v0,
    K_main_call0_v2, K_main_call0_v5, K_main_call0_cst]
  refine (congrArg (fun x => Ideal.div (-x) (Ideal.ofBits FTy.f32 0x41800000#32)) (if_neg (not_not.mpr rfl))).trans ?_
  refine (Gla.logGate_eq _).trans ?_
  simp only [row_eq]
  rfl

/-! ## The iteration -/

section iteration
variable (it : ℕ → State Ideal) (h0 : it 0 = init P G W B) (hs : ∀ n, it (n + 1) = step n (it n))
include h0 hs

theorem it_q : ∀ n, (it n).main_v37_0 = A_main_v29 P G W B
  | 0 => by rw [h0]; rfl
  | n + 1 => by rw [hs]; exact it_q n
theorem it_k : ∀ n, (it n).main_v37_1 = A_main_v31 P G W B
  | 0 => by rw [h0]; rfl
  | n + 1 => by rw [hs]; exact it_k n
theorem it_v : ∀ n, (it n).main_v37_2 = A_main_v33 P G W B
  | 0 => by rw [h0]; rfl
  | n + 1 => by rw [hs]; exact it_v n
theorem it_g : ∀ n, (it n).main_v37_3 = A_main_v35 P G W B
  | 0 => by rw [h0]; rfl
  | n + 1 => by rw [hs]; exact it_g n

theorem Q_eq (n : Fin 32) (bb hh : Fin 4) : Q (it n.val) n bb hh = Gla.qry P bb hh n.val :=
  funext fun c => funext fun a => by rw [Q, it_q P G W B it h0 hs]; exact A_qry P G W B n bb hh c a
theorem K_eq (n : Fin 32) (bb hh : Fin 4) : Kc (it n.val) n bb hh = Gla.key P bb hh n.val :=
  funext fun c => funext fun a => by rw [Kc, it_k P G W B it h0 hs]; exact A_key P G W B n bb hh c a
theorem V_eq (n : Fin 32) (bb hh : Fin 4) : Vc (it n.val) n bb hh = Gla.val P bb hh n.val :=
  funext fun c => funext fun a => by rw [Vc, it_v P G W B it h0 hs]; exact A_val P G W B n bb hh c a
theorem G_eq (n : Fin 32) (bb hh : Fin 4) : Gc (it n.val) n bb hh = Gla.gate G W B bb hh n.val :=
  funext fun c => funext fun a => by rw [Gc, it_g P G W B it h0 hs]; exact A_gate P G W B n bb hh c a

/-- THE STATE after `n` trips. -/
theorem it_state : ∀ n : ℕ, n ≤ 32 → ∀ (bb hh : Fin 4) (a : Fin 512) (b : Fin 1024),
    (it n).main_v37_6 (ix4 bb hh a b) = Gla.st P G W B bb hh n a b
  | 0, _ => fun bb hh a b => by
    rw [h0]
    show K_main_v27 (F := Ideal) (ix4 bb hh a b) = 0
    pointwise [K_main_v27, K_main_cst_1]
  | n + 1, h => fun bb hh a b => by
    rw [hs, step_main_v37_6]
    refine (state_apply ⟨n, h⟩ (it n) bb hh a b).trans ?_
    rw [K_eq P G W B it h0 hs ⟨n, h⟩, G_eq P G W B it h0 hs ⟨n, h⟩, V_eq P G W B it h0 hs ⟨n, h⟩]
    simp only [it_state n (Nat.le_of_succ_le h)]
    rfl

/-- A trip writes its own row of the stack and keeps the others. -/
theorem stack_apply (n i : Fin 32) (s : State Ideal) (bb hh : Fin 4) (c : Fin 64) (b : Fin 1024) :
    b58 n.val s (ix5 i bb hh c b) = if i = n then b41 n.val s (ix4 bb hh c b) else s.main_v37_7 (ix5 i bb hh c b) := by
  pointwise [b58, b57, b56, b55, b54, b53]
  have e : ∀ k : Fin 5, Host.clampedStart S32x4x4x64x1024 S1x4x4x64x1024 rfl (fun k =>
      BitVec.toInt ((![constantI S_ 32 (BitVec.ofNat 32 n.val), constantI S_ 32 0#32, constantI S_ 32 0#32, constantI S_ 32 0#32,
        constantI S_ 32 0#32] : Fin 5 → IVec S_ 32) k (Shape.Idx.first h_S_))) k = if k = 0 then n.val else 0 := by
    intro k
    match k with
    | ⟨0, _⟩ => exact start_eq n
    | ⟨1, _⟩ => rfl
    | ⟨2, _⟩ => rfl
    | ⟨3, _⟩ => rfl
    | ⟨4, _⟩ => rfl
  simp only [e]
  by_cases h : i = n
  · subst h
    simp
  · have h' : ¬ (n.val ≤ i.val ∧ i.val < n.val + 1) := fun hh => h (Fin.ext (by omega))
    simp [h]
    omega

/-- THE STACK OF ROWS after `n` trips. -/
theorem it_rows : ∀ n : ℕ, n ≤ 32 → ∀ (i : Fin 32), i.val < n → ∀ (bb hh : Fin 4) (c : Fin 64) (b : Fin 1024),
    (it n).main_v37_7 (ix5 i bb hh c b) = Gla.rows P G W B bb hh i.val c b
  | 0, _ => fun i hi => absurd hi (Nat.not_lt_zero _)
  | n + 1, h => fun i hi bb hh c b => by
    rw [hs, step_main_v37_7]
    refine (stack_apply P G W B it h0 hs ⟨n, h⟩ i (it n) bb hh c b).trans ?_
    by_cases e : i = ⟨n, h⟩
    · subst e
      rw [if_pos rfl, out_apply ⟨n, h⟩, Q_eq P G W B it h0 hs ⟨n, h⟩, K_eq P G W B it h0 hs ⟨n, h⟩, G_eq P G W B it h0 hs ⟨n, h⟩, V_eq P G W B it h0 hs ⟨n, h⟩]
      simp only [it_state P G W B it h0 hs n (Nat.le_of_succ_le h)]
      rfl
    · rw [if_neg e]
      refine it_rows n (Nat.le_of_succ_le h) i ?_ bb hh c b
      have : i.val ≠ n := fun e' => e (Fin.ext e')
      omega

/-- THE RESULT. -/
theorem result_apply (bb hh : Fin 4) (n : Fin 32) (c : Fin 64) (b : Fin 1024) (r : Fin 8192) (cc : Fin 4096)
    (hr : r.val = bb.val * 2048 + (n.val * 64 + c.val)) (hc : cc.val = hh.val * 1024 + b.val) :
    R_main_v61 (F := Ideal) (it 32) P N (ix2 r cc) = Gla.out P G W B N bb hh n.val c b := by
  pointwise [R_main_v61]
  have e1 : ∀ {h}, (⟨r.val % 2048 / 64, h⟩ : Fin 32) = n := fun {h} => Fin.ext (by show r.val % 2048 / 64 = n.val; omega)
  have e2 : ∀ {h}, (⟨r.val / 2048, h⟩ : Fin 4) = bb := fun {h} => Fin.ext (by show r.val / 2048 = bb.val; omega)
  have e3 : ∀ {h}, (⟨cc.val / 1024, h⟩ : Fin 4) = hh := fun {h} => Fin.ext (by show cc.val / 1024 = hh.val; omega)
  have e4 : ∀ {h}, (⟨r.val % 2048 % 64, h⟩ : Fin 64) = c := fun {h} => Fin.ext (by show r.val % 2048 % 64 = c.val; omega)
  have e5 : ∀ {h}, (⟨cc.val % 1024, h⟩ : Fin 1024) = b := fun {h} => Fin.ext (by show cc.val % 1024 = b.val; omega)
  have e6 : ∀ {h}, (⟨r.val, h⟩ : Fin 9216) = Gla.row bb n.val c := fun {h} => Fin.ext (by rw [Gla.row_val bb n.isLt c]; exact hr)
  have e7 : ∀ {h}, (⟨8192 + cc.val, h⟩ : Fin 12288) = ⟨8192 + (hh.val * 1024 + b.val), by omega⟩ := fun {h} => Fin.ext (by show 8192 + cc.val = 8192 + (hh.val * 1024 + b.val); omega)
  simp only [e1, e2, e3, e4, e5, e6, e7, it_rows P G W B it h0 hs 32 (le_refl _) n n.isLt]
  rfl

end iteration

end Cert.ReferenceIdeal.Chunk

end
-- ==== Proof.lean ====
/-
  The proof of `Cert.Claim` (proofs.«01_k».proof.Defs): each program's frame, the ideal programs' faithfulness, and the
  equations of the kernels with their references over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Proj
public import proofs.«01_k».proof.Proof.Glu
public import proofs.«01_k».proof.Proof.GlaOut
public import proofs.«01_k».proof.Proof.ConvOut
public import proofs.«01_k».proof.Proof.ConvCache
public import proofs.«01_k».proof.Proof.ConvTail
public import proofs.«01_k».proof.Proof.ConvSampleTail
public import proofs.«01_k».proof.Proof.SampleKer
public import proofs.«01_k».proof.Proof.SampleRef
public import proofs.«01_k».proof.Proof.Finite
public import proofs.«01_k».proof.Proof.KerValue
public import proofs.«01_k».proof.Proof.RefRun
public import proofs.«01_k».proof.Proof.RefValue
public import Idealize.ShloMosaic.Adequacy
public import Idealize.ShloMosaic.Init

@[expose] public section

noncomputable section

namespace Cert.Proof

open Idealize.ShloMosaic Idealize.SL.Sem

/-! ## The attention over its projections -/

/-- The reference runs, leaves its arguments, and has no semaphore. -/
theorem frame_reference : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩)
    (Cert.ReferenceIdeal.Value.run (F := Ideal) m ρ)

/-- The kernel's rows and last states are the reference's, at real queries, keys and values. -/
theorem attention : Cert.algebraic_KernelIdeal_ReferenceIdeal_pre_finite_qkv (hKernelIdeal := Cert.KernelIdeal.Gen.facts)
    (hReferenceIdeal := Cert.ReferenceIdeal.Gen.facts) (hPre_finite_qkv := Cert.Pre_finite_qkv.facts) := by
  intro m g m' g' hpre hagree
  have hP : ∀ c, Cert.Gla.RealQkv (Cert.KernelIdeal.Block.argP m c) := fun c =>
    @Cert.Pre_finite_qkv.realQkv Cert.Pre_finite_qkv.facts _ _ _ _ _ (hpre c)
  refine ⟨fun c => Cert.KernelIdeal.Block.arr8 m c, fun c => Cert.KernelIdeal.Block.arr9 m c, ?_, ?_⟩
  · refine (θ_run _ _ _).mono (fun r h c => ?_) (Cert.KernelIdeal.Value.run_blocks (F := Ideal) m g)
    exact ⟨(h c).1.trans (Cert.KernelIdeal.Block.array8 (hP c)), (h c).2.1.trans (Cert.KernelIdeal.Block.array9 (hP c)), (h c).2.2⟩
  · refine (θ_run _ _ _).mono (fun r h c => ?_) (Cert.ReferenceIdeal.Chunk.run_states m' g')
    obtain ⟨e0, e1, e2, e3, e4⟩ := hagree c
    refine ⟨(h c).1.trans ?_, (h c).2.1.trans ?_, (h c).2.2⟩
    · funext i
      obtain ⟨r, cc, rfl⟩ : ∃ (r : Fin 8192) (cc : Fin 4096), i = ix2 r cc := ⟨i 0, i 1, eq_ix2 i⟩
      refine (Cert.ReferenceIdeal.Chunk.result_apply _ _ _ _ _ (Cert.ReferenceIdeal.Chunk.states m' c) rfl (fun n => rfl)
        ⟨r.val / 2048, by omega⟩ ⟨cc.val / 1024, by omega⟩ ⟨r.val % 2048 / 64, by omega⟩ ⟨r.val % 64, by omega⟩ ⟨cc.val % 1024, by omega⟩
        r cc (by show r.val = r.val / 2048 * 2048 + (r.val % 2048 / 64 * 64 + r.val % 64); omega)
        (by show cc.val = cc.val / 1024 * 1024 + cc.val % 1024; omega)).trans ?_
      rw [e0, e1, e2, e3, e4]
      rfl
    · funext i
      obtain ⟨bb, hh, a, b, rfl⟩ : ∃ (bb hh : Fin 4) (a : Fin 512) (b : Fin 1024), i = ix4 bb hh a b := ⟨i 0, i 1, i 2, i 3, eq_ix4 i⟩
      refine (Cert.ReferenceIdeal.Chunk.it_state _ _ _ _ (Cert.ReferenceIdeal.Chunk.states m' c) rfl (fun n => rfl) 32 (le_refl _) bb hh a b).trans ?_
      rw [e0, e1, e2, e3]
      rfl

/-! ## The projection to queries, keys, values and output gates -/

theorem frame_reference2 : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

/-- The kernel's array is the reference's. -/
theorem projection : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Proj.arr m c, ?_, ?_⟩
  · refine (θ_run _ _ _).mono (fun r h c => ?_) (Cert.Kernel2Ideal.Value.run_blocks (F := Ideal) m g)
    exact ⟨(h c).1.trans (Cert.Proj.array m c), (h c).2⟩
  · refine (θ_run _ _ _).mono (fun r h c => ?_) (Cert.Reference2Ideal.Value.run (F := Ideal) m' g')
    obtain ⟨e0, e1⟩ := hagree c
    refine ⟨(h c).1.trans ?_, (h c).2⟩
    rw [e0, e1]
    funext i
    obtain ⟨r, j, rfl⟩ : ∃ (r : Fin 9216) (j : Fin 12288), i = ix2 r j := ⟨i 0, i 1, eq_ix2 i⟩
    exact Cert.Proj.ref_apply _ _ r j

/-! ## The convolution module's first pointwise product -/

theorem frame_reference3 : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The kernel's array is the reference's. -/
theorem gatedUnit : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Glu.arr m c, ?_, ?_⟩
  · refine (θ_run _ _ _).mono (fun r h c => ?_) (Cert.Kernel3Ideal.Value.run_blocks (F := Ideal) m g)
    exact ⟨(h c).1.trans (Cert.Glu.array m c), (h c).2⟩
  · refine (θ_run _ _ _).mono (fun r h c => ?_) (Cert.Reference3Ideal.Value.run (F := Ideal) m' g')
    obtain ⟨e0, e1, e2⟩ := hagree c
    refine ⟨(h c).1.trans ?_, (h c).2⟩
    rw [e0, e1, e2]
    funext i
    obtain ⟨r, j, rfl⟩ : ∃ (r : Fin 9216) (j : Fin 4096), i = ix2 r j := ⟨i 0, i 1, eq_ix2 i⟩
    exact Cert.Glu.ref_apply _ _ _ r j

/-! ## The attention's output projection -/

theorem frame_reference4 : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

/-- The kernel's array is the reference's. -/
theorem attentionOut : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.GlaOut.arr m c, ?_, ?_⟩
  · refine (θ_run _ _ _).mono (fun r h c => ?_) (Cert.Kernel4Ideal.Value.run_blocks (F := Ideal) m g)
    exact ⟨(h c).1.trans (Cert.GlaOut.array m c), (h c).2⟩
  · refine (θ_run _ _ _).mono (fun r h c => ?_) (Cert.Reference4Ideal.Value.run (F := Ideal) m' g')
    obtain ⟨e0, e1, e2, e3, e4⟩ := hagree c
    refine ⟨(h c).1.trans ?_, (h c).2⟩
    rw [e0, e1, e2, e3, e4]
    funext i
    obtain ⟨r, j, rfl⟩ : ∃ (r : Fin 9216) (j : Fin 4096), i = ix2 r j := ⟨i 0, i 1, eq_ix2 i⟩
    exact Cert.GlaOut.ref_apply _ _ _ _ _ r j

/-! ## The convolution module's second pointwise product -/

theorem frame_reference5 : Cert.quiescent_Reference5Ideal (hReference5Ideal := Cert.Reference5Ideal.Gen.facts) := fun m ρ _ =>
  (θ_run _ _ _).mono (fun r h => ⟨fun c => (h c).2, sem_eq_zero_of_no_sems (by decide) r.2⟩)
    (Cert.Reference5Ideal.Value.run (F := Ideal) m ρ)

/-- The kernel's array is the reference's. -/
theorem convolutionOut : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.ConvOut.arr m c, ?_, ?_⟩
  · refine (θ_run _ _ _).mono (fun r h c => ?_) (Cert.Kernel5Ideal.Value.run_blocks (F := Ideal) m g)
    exact ⟨(h c).1.trans (Cert.ConvOut.array m c), (h c).2⟩
  · refine (θ_run _ _ _).mono (fun r h c => ?_) (Cert.Reference5Ideal.Value.run (F := Ideal) m' g')
    obtain ⟨e0, e1, e2, e3, e4⟩ := hagree c
    refine ⟨(h c).1.trans ?_, (h c).2⟩
    rw [e0, e1, e2, e3, e4]
    funext i
    obtain ⟨r, j, rfl⟩ : ∃ (r : Fin 9216) (j : Fin 4096), i = ix2 r j := ⟨i 0, i 1, eq_ix2 i⟩
    exact Cert.ConvOut.ref_apply _ _ _ _ _ r j

/-! ## The sampled sequences' attention -/

theorem frame_reference6 : Cert.quiescent_Reference6Ideal (hReference6Ideal := Cert.Reference6Ideal.Gen.facts) := fun m ρ _ =>
  (θ_run _ _ _).mono (fun r h => ⟨fun c => (h c).2.2, sem_eq_zero_of_no_sems (by decide) r.2⟩)
    (Cert.Reference6Ideal.Value.run (F := Ideal) m ρ)

/-- The kernel's rows and states are the reference's. -/
theorem sampledAttention : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Block.arr9 m c, fun c => Cert.Kernel6Ideal.Block.arr10 m c, ?_, ?_⟩
  · refine (θ_run _ _ _).mono (fun r h c => ?_) (Cert.Kernel6Ideal.Value.run_blocks (F := Ideal) m g)
    exact ⟨(h c).1.trans (Cert.Kernel6Ideal.Block.array9 m c), (h c).2.1.trans (Cert.Kernel6Ideal.Block.array10 m c), (h c).2.2⟩
  · refine (θ_run _ _ _).mono (fun r h c => ?_) (Cert.Reference6Ideal.Value.run (F := Ideal) m' g')
    obtain ⟨e0, e1, e2, e3, e4, e5⟩ := hagree c
    refine ⟨(h c).1.trans ?_, (h c).2.1.trans ?_, (h c).2.2⟩
    · refine (Cert.Reference6Ideal.Rows.res_rows m' c).trans ?_
      rw [e0, e1, e2, e3, e4, e5]
      funext i
      obtain ⟨r, cc, rfl⟩ : ∃ (r : Fin 1024) (cc : Fin 4096), i = ix2 r cc := ⟨i 0, i 1, eq_ix2 i⟩
      exact Cert.Reference6Ideal.Rows.result_apply _ _ _ _ _ _ ⟨r.val / 8, by omega⟩ ⟨cc.val / 1024, by omega⟩ ⟨r.val % 8, by omega⟩
        ⟨cc.val % 1024, by omega⟩ r cc (by show r.val = r.val / 8 * 8 + r.val % 8; omega)
        (by show cc.val = cc.val / 1024 * 1024 + cc.val % 1024; omega)
    · refine (Cert.Reference6Ideal.Rows.res_state m' c).trans ?_
      rw [e0, e1, e2, e3, e5]
      funext i
      obtain ⟨bb, hh, a, b, rfl⟩ : ∃ (bb : Fin 128) (hh : Fin 4) (a : Fin 512) (b : Fin 1024), i = ix4 bb hh a b := ⟨i 0, i 1, i 2, i 3, eq_ix4 i⟩
      exact Cert.Reference6Ideal.Rows.newState_apply _ _ _ _ _ bb hh a b

/-! ## The depthwise convolution's caches, of the prompts and of the samples -/

theorem frame_reference7 : Cert.quiescent_Reference7Ideal (hReference7Ideal := Cert.Reference7Ideal.Gen.facts) := fun m ρ _ =>
  (θ_run _ _ _).mono (fun r h => ⟨fun c => (h c).2, sem_eq_zero_of_no_sems (by decide) r.2⟩)
    (Cert.Reference7Ideal.Value.run (F := Ideal) m ρ)

/-- The caches the kernel leaves of the prompts are the reference's. -/
theorem promptCache : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Kernel7Ideal.Cache.caches (Cert.Kernel7Ideal.Cache.argU m c), ?_, ?_⟩
  · refine (θ_run _ _ _).mono (fun r h c => ?_) (Cert.Kernel7Ideal.Value.run_blocks (F := Ideal) m g)
    exact ⟨(h c).2.1.trans (Cert.Kernel7Ideal.Cache.array6 m c), (h c).2.2⟩
  · refine (θ_run _ _ _).mono (fun r h c => ?_) (Cert.Reference7Ideal.Value.run (F := Ideal) m' g')
    obtain ⟨e0, -⟩ := hagree c
    refine ⟨(h c).1.trans ?_, (h c).2⟩
    rw [e0]
    funext i
    obtain ⟨b, p, l, rfl⟩ : ∃ (b : Fin 4) (p : Fin 30) (l : Fin 4096), i = ix3 b p l := ⟨i 0, i 1, i 2, eq_ix3 i⟩
    exact Cert.Reference7Ideal.cache_apply _ b p l

theorem frame_reference8 : Cert.quiescent_Reference8Ideal (hReference8Ideal := Cert.Reference8Ideal.Gen.facts) := fun m ρ _ =>
  (θ_run _ _ _).mono (fun r h => ⟨fun c => (h c).2, sem_eq_zero_of_no_sems (by decide) r.2⟩)
    (Cert.Reference8Ideal.Value.run (F := Ideal) m ρ)

/-- The caches the kernel leaves of the samples are the reference's. -/
theorem sampledCache : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Kernel8Ideal.Cache.caches (Cert.Kernel8Ideal.Cache.argU m c) (Cert.Kernel8Ideal.Cache.argOld m c), ?_, ?_⟩
  · refine (θ_run _ _ _).mono (fun r h c => ?_) (Cert.Kernel8Ideal.Value.run_blocks (F := Ideal) m g)
    exact ⟨(h c).2.1.trans (Cert.Kernel8Ideal.Cache.array7 m c), (h c).2.2⟩
  · refine (θ_run _ _ _).mono (fun r h c => ?_) (Cert.Reference8Ideal.Value.run (F := Ideal) m' g')
    obtain ⟨e0, e1, e2, e3, e4, e5⟩ := hagree c
    refine ⟨(h c).1.trans ?_, (h c).2⟩
    rw [e0, e5]
    funext i
    obtain ⟨b, p, l, rfl⟩ : ∃ (b : Fin 128) (p : Fin 30) (l : Fin 4096), i = ix3 b p l := ⟨i 0, i 1, i 2, eq_ix3 i⟩
    exact Cert.Reference8Ideal.cache_apply _ _ b p l

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_qkv.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  trivial, attention, trivial, projection, trivial, gatedUnit, trivial, attentionOut, trivial, convolutionOut, trivial, sampledAttention,
  trivial, promptCache, trivial, sampledCache⟩

end Cert.Proof

end
